-- ==== Defs.lean ====
def Pre_Kernel [hPre_lens_in_range : Cert.Pre_lens_in_range.Facts] (m : (ℓ : Loc Cert.Kernel.nD Cert.Kernel.τ Cert.Kernel.sig) → Buf (Elt Bits) ℓ) : Prop :=
  ∀ c : Dev Cert.Kernel.nD,
    (Cert.Pre_lens_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_lens_in_range : Cert.Pre_lens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_in_range [hPre_lens_in_range : Cert.Pre_lens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_lens_in_range : Cert.Pre_lens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lens_in_range [hReferenceIdeal : Cert.ReferenceIdeal.Facts] [hPre_lens_in_range : Cert.Pre_lens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lens_in_range : Cert.Pre_lens_in_range.Facts),
    quiescent_Kernel (hKernel := hKernel) (hPre_lens_in_range := hPre_lens_in_range)
    ∧ quiescent_KernelIdeal (hKernelIdeal := hKernelIdeal) (hPre_lens_in_range := hPre_lens_in_range)
    ∧ quiescent_ReferenceIdeal (hReferenceIdeal := hReferenceIdeal)
    ∧ quiescent_ReferenceIdeal_pre_lens_in_range (hReferenceIdeal := hReferenceIdeal) (hPre_lens_in_range := hPre_lens_in_range)
    ∧ preserves_Kernel_KernelIdeal
    ∧ algebraic_KernelIdeal_ReferenceIdeal (hKernelIdeal := hKernelIdeal) (hReferenceIdeal := hReferenceIdeal) (hPre_lens_in_range := hPre_lens_in_range)
-- ==== Pre_lens_in_range.lean ====
abbrev S32768x1024 : Shape := ⟨2, ![32768, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x1024 .f32) (main_arg1 : IVec S16 32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 2048#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S32768x1024 : Shape := ⟨2, ![32768, 1024]⟩
abbrev S16 : Shape := ⟨1, ![16]⟩
abbrev S16x1024 : Shape := ⟨2, ![16, 1024]⟩
abbrev S48 : Shape := ⟨1, ![48]⟩
abbrev S32 : Shape := ⟨1, ![32]⟩
abbrev S1x1024 : Shape := ⟨2, ![1, 1024]⟩
abbrev S_ : Shape := ⟨0, ![]⟩
abbrev S1 : Shape := ⟨1, ![1]⟩
abbrev S1x16 : Shape := ⟨2, ![1, 16]⟩

abbrev nBuf : Table → Nat
  | .hbm => 3
  | .local .scVector .vmem => 4
  | _ => 0

abbrev bufTy : (tb : Table) → Fin (nBuf tb) → BufTy
  | .hbm, ⟨0, _⟩ => ⟨S32768x1024, .f32⟩
  | .hbm, ⟨1, _⟩ => ⟨S16, .i32⟩
  | .hbm, ⟨2, _⟩ => ⟨S16x1024, .f32⟩
  | .local .scVector .vmem, ⟨0, _⟩ => ⟨S16, .i32⟩
  | .local .scVector .vmem, ⟨1, _⟩ => ⟨S48, .i32⟩
  | .local .scVector .vmem, ⟨2, _⟩ => ⟨S32, .f32⟩
  | .local .scVector .vmem, ⟨3, _⟩ => ⟨S1x1024, .f32⟩
  | _, _ => ⟨S32768x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let c16_i32 : BitVec 32 := 16#32
  let arg1 : BitVec 32 := BitVec.ofNat 32 (i 1).val
  let v43 : BitVec 32 := Scalar.addi c16_i32 arg1
  let v44 : Index := Scalar.indexCast v43
  ![v44.toNat]
def k0_off2 (v48 : BitVec 32) : Fin 2 → Nat :=
  let c0_i32_343_r1 : BitVec 32 := 0#32
  ![v48.toNat, 0]

def k0_chk1 (v48 : BitVec 32) : Prop :=
  (∀ a, (k0_off2 v48) a + S1x1024.size a ≤ S32768x1024.size a)
theorem k0_off2_inb : ∀ (v48 : BitVec 32) (k0_hw1 : k0_chk1 v48), ∀ a, (k0_off2 v48) a + S1x1024.size a ≤ S32768x1024.size a := fun v48 k0_hw1 => k0_hw1

def k0_off3 (i : grid0.Coords) : Fin 2 → Nat :=
  let arg1 : BitVec 32 := BitVec.ofNat 32 (i 1).val
  let c0_i32_343_r2 : BitVec 32 := 0#32
  ![arg1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S32768x1024 : Shape := ⟨2, ![32768, 1024]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S16x1024 : Shape := ⟨2, ![16, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16, .i32⟩
  | .hbm, ⟨2, _⟩ => ⟨S_, .i32⟩
  | .hbm, ⟨3, _⟩ => ⟨S_, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i1⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S16x1, .i32⟩
  | .hbm, ⟨16, _⟩ => ⟨S1, .i32⟩
  | .hbm, ⟨17, _⟩ => ⟨S_, .i32⟩
  | .hbm, ⟨18, _⟩ => ⟨S16x1, .i32⟩
  | .hbm, ⟨19, _⟩ => ⟨S16x1, .i1⟩
  | .hbm, ⟨20, _⟩ => ⟨S1x1, .i32⟩
  | .hbm, ⟨21, _⟩ => ⟨S16x1, .i32⟩
  | .hbm, ⟨22, _⟩ => ⟨S16x1, .i1⟩
  | .hbm, ⟨23, _⟩ => ⟨S16x1, .i1⟩
  | .hbm, ⟨24, _⟩ => ⟨S_, .i1⟩
  | .hbm, ⟨25, _⟩ => ⟨S16, .i1⟩
  | .hbm, ⟨26, _⟩ => ⟨S16x1024, .f32⟩
  | .hbm, ⟨27, _⟩ => ⟨S16x1024, .i1⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16, .f32⟩
  | .hbm, ⟨34, _⟩ => ⟨S16x1, .f32⟩
  | .hbm, ⟨35, _⟩ => ⟨S16x1, .f32⟩
  | .hbm, ⟨36, _⟩ => ⟨S_, .f32⟩
  | .hbm, ⟨37, _⟩ => ⟨S16x1, .f32⟩
  | .hbm, ⟨38, _⟩ => ⟨S16x1, .f32⟩
  | .hbm, ⟨39, _⟩ => ⟨S16x1024, .f32⟩
  | .hbm, ⟨40, _⟩ => ⟨S16x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_v14 : Ref sig .tc := ⟨.hbm, 27, rfl⟩
abbrev main_call1_cst : Ref sig .tc := ⟨.hbm, 28, rfl⟩
abbrev main_call1_v15 : Ref sig .tc := ⟨.hbm, 29, rfl⟩
abbrev main_v3 : Ref sig .tc := ⟨.hbm, 30, rfl⟩
abbrev main_call2_v0 : Ref sig .tc := ⟨.hbm, 31, rfl⟩
abbrev main_call2_cst : Ref sig .tc := ⟨.hbm, 32, rfl⟩
abbrev main_call2_v1 : Ref sig .tc := ⟨.hbm, 33, rfl⟩
abbrev main_call2_v2 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩

abbrev nD : Nat := 1
abbrev τ : Topo := Topo.v7x

variable {F : FTy → Type} [FloatOps F]
-- ==== Proof.Setup.lean ====
/-
  The set-up of the kernel's launch: the program as the launch theorem sees it, the three arrays in HBM and the four
  scratch buffers of a vector subcore, the shares in which the two arrays that every subcore reads are dealt, and the
  rows in which the result is dealt. One SparseCore runs, with sixteen vector subcores; subcore `r` makes row `r`.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program -/

/-- The labels of the program below the SparseCore call. -/
abbrev ΛP : Labels := Pipeline.Sig Λ₀ (Fin 0) fun p => (pcfgs (F := F) p).Adm
/-- The one SparseCore call. -/
abbrev K : SparseCore.Cfg τ sig (ΛP (F := F)) 1 := sc (F := F)
/-- The bodies below the call. -/
abbrev D : Defs nD τ sig (Elt F) (ΛP (F := F)) := Pipeline.defs pcfgs defs₀
/-- No body recurs, so no variant is counted. -/
abbrev 𝒱₀ : Variants := Variants.none
abbrev 𝒱 : Variants := 𝒱₀.lift
abbrev v₀ : 𝒱.V := Sum.inl none

theorem nSub_eq : (K (F := F)).nSub 0 = 16 := rfl

/-- The four launch semaphores are four, none of them a kernel's scratch, and no subcore's buffer is its tasks' in common. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## Ghost state: the handshakes' rounds, and a counter for each transfer -/

abbrev UH : Type := URounds (GSem nD τ sig) ℕ
abbrev UU : Type := UH × Counters

local notation "𝕄" => MT nD τ sig (HIx 1) (Elt F) ℕ UU ℕ

/-- Where the handshakes' rounds lie in the ghost state. -/
abbrev EH : Emb UH (MT nD τ sig (HIx 1) (Elt F) ℕ UU ℕ) := embL

/-! ## The arrays and the scratch buffers -/

/-- The table of hidden states. -/
abbrev hLoc (d : Dev nD) : Loc nD τ sig := (SparseCore.T d).loc main_arg0
/-- The lengths of the prompts. -/
abbrev nLoc (d : Dev nD) : Loc nD τ sig := (SparseCore.T d).loc main_arg1
/-- The result. -/
abbrev oLoc (d : Dev nD) : Loc nD τ sig := (SparseCore.T d).loc main_v0

local notation "hV" => (Memref.whole Cert.KernelIdeal.main_arg0_scv : Memref Cert.KernelIdeal.sig Kind.scVector Space.hbm Cert.KernelIdeal.S32768x1024 EltTy.f32)
local notation "nV" => (Memref.whole Cert.KernelIdeal.main_arg1_scv : Memref Cert.KernelIdeal.sig Kind.scVector Space.hbm Cert.KernelIdeal.S16 EltTy.i32)
local notation "oV" => (Memref.whole Cert.KernelIdeal.main_v0_scv : Memref Cert.KernelIdeal.sig Kind.scVector Space.hbm Cert.KernelIdeal.S16x1024 EltTy.f32)
local notation "lensV" => (Memref.whole Cert.KernelIdeal.cc0_scratch0 : Memref Cert.KernelIdeal.sig Kind.scVector Space.vmem Cert.KernelIdeal.S16 EltTy.i32)
local notation "shiV" => (Memref.whole Cert.KernelIdeal.cc0_scratch1 : Memref Cert.KernelIdeal.sig Kind.scVector Space.vmem Cert.KernelIdeal.S48 EltTy.i32)
local notation "shfV" => (Memref.whole Cert.KernelIdeal.cc0_scratch2 : Memref Cert.KernelIdeal.sig Kind.scVector Space.vmem Cert.KernelIdeal.S32 EltTy.f32)
local notation "rowV" => (Memref.whole Cert.KernelIdeal.cc0_scratch3 : Memref Cert.KernelIdeal.sig Kind.scVector Space.vmem Cert.KernelIdeal.S1x1024 EltTy.f32)

/-! ## The subcore at coordinates `L`, and its row of the result -/

abbrev cV (L : grid0.Coords) : Fin τ.nSC := (L 0).castLE hcore0
abbrev jV (L : grid0.Coords) : Fin τ.nSub := (L 1).castLE hsub0
theorem bound_sub : grid0.bound 1 = 16 := rfl
/-- The subcore's number, the row that it makes. -/
abbrev jL (L : grid0.Coords) : Fin 16 := Fin.cast bound_sub (L 1)
/-- The thread of the subcore. -/
abbrev thr (d : Dev nD) (L : grid0.Coords) : Thread nD τ := V d (cV L) (jV L)

theorem rows_div : 16 ∣ S16x1024.size 0 := ⟨1, rfl⟩
/-- Row `r` of the result. -/
abbrev orow (r : Fin 16) : Rect S16x1024 := Rect.part (s := S16x1024) (a₀ := 0) rows_div r
/-- The elements of row `r`. -/
abbrev oRowSet (r : Fin 16) : Finset S16x1024.Idx := ((oV).view.slice (orow r)).set

/-- Row `L 1` of the result as the subcore's last copy addresses it. -/
abbrev orowK (L : grid0.Coords) : Rect S16x1024 := Rect.unit (s := S16x1024) (k0_off3 L) S1x1024.size (k0_off3_inb L)
abbrev oRowK (L : grid0.Coords) : Memref sig .scVector .hbm S1x1024 .f32 := (oV).slice (orowK L) (fun _ => rfl)

theorem orowK_eq (L : grid0.Coords) : orowK L = orow (jL L) := by
  unfold orowK orow Rect.part Rect.block
  congr 1 <;> funext a
  · rw [k0_off3_eq]
    fin_cases a <;> simp [Shape.partIx, Shape.partSize]
  · fin_cases a <;> simp [Shape.partSize]

theorem set_oRowK (L : grid0.Coords) : (oRowK L).view.set = oRowSet (jL L) := by
  show ((oV).view.slice (orowK L)).set = ((oV).view.slice (orow (jL L))).set
  exact orowK_eq L ▸ rfl

theorem pts_oRowK (d : Dev nD) (L : grid0.Coords) (f : Buf (Elt F) (oLoc d)) :
    ((oRowK L).view.loc (thr d L) ↦[(oRowK L).view.set]{fullShare} f : sProp 𝕄) = oLoc d ↦[oRowSet (jL L)]{fullShare} f := by
  rw [set_oRowK]

theorem oRowSet_eq (r : Fin 16) : oRowSet r = (orow r).set := by
  show ((View.whole (main_v0_scv : Ref sig .scVector)).slice (orow r)).set = _
  rw [View.set_slice]; exact Finset.map_refl
theorem oRows_disjoint : ∀ i ∈ (Finset.univ : Finset (Fin 16)), ∀ j ∈ (Finset.univ : Finset (Fin 16)), i ≠ j →
    Disjoint (oRowSet i) (oRowSet j) := fun i _ j _ h => by
  rw [oRowSet_eq, oRowSet_eq]; exact Rect.part_disjoint rows_div h
theorem oRows_cover : (Finset.univ : Finset (Fin 16)).biUnion oRowSet = Finset.univ :=
  (Finset.biUnion_congr rfl fun i _ => oRowSet_eq i).trans (Rect.biUnion_part rows_div)

/-- The result is held whole exactly when each of its sixteen rows is held. -/
theorem oPts_rows (d : Dev nD) (f : Buf (Elt F) (oLoc d)) :
    (oLoc d ↦{fullShare} f : sProp 𝕄) = bigSep Finset.univ fun r : Fin 16 => oLoc d ↦[oRowSet r]{fullShare} f := by
  rw [← pointsTo_biUnion Finset.univ (ℓ := oLoc d) oRowSet oRows_disjoint, oRows_cover]; try rfl

/-! ## The shares of the two arrays that every subcore reads -/

/-- Subcore `r`'s sixteenth of the full share. -/
abbrev q16 (r : Fin 16) : PosShare TreeShare := ShareLeaves.leaf 4 fullShare r

/-- An array held outright is its sixteen shares at once. -/
theorem pts_shares {ℓ : Loc nD τ sig} (f : Buf (Elt F) ℓ) :
    (ℓ ↦{fullShare} f : sProp 𝕄) = bigSep Finset.univ fun r : Fin 16 => ℓ ↦{q16 r} f :=
  ShareLeaves.pointsTo_leaves Finset.univ f 4 fullShare

/-! ## The subcore's own semaphores and buffers -/

abbrev cell0 (d : Dev nD) (L : grid0.Coords) : GSem nD τ sig := (thr d L, .dma cc0_scoped0.sem)
abbrev cell1 (d : Dev nD) (L : grid0.Coords) : GSem nD τ sig := (thr d L, .dma cc0_scoped1.sem)
abbrev cell2 (d : Dev nD) (L : grid0.Coords) : GSem nD τ sig := (thr d L, .dma cc0_scoped2.sem)

/-- The three copies' semaphores are among the subcore's own. -/
theorem ownSems0_thr (d : Dev nD) (L : grid0.Coords) :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  have h0 : cell0 d L ∈ ownCells (thr d L) := mem_ownCells.mpr ⟨rfl, by
    show (SemLoc.dma cc0_scoped0.sem : SemLoc sig).isScoped .scVector = true; decide⟩
  have h1 : cell1 d L ∈ ownCells (thr d L) := mem_ownCells.mpr ⟨rfl, by
    show (SemLoc.dma cc0_scoped1.sem : SemLoc sig).isScoped .scVector = true; decide⟩
  have h2 : cell2 d L ∈ ownCells (thr d L) := mem_ownCells.mpr ⟨rfl, by
    show (SemLoc.dma cc0_scoped2.sem : SemLoc sig).isScoped .scVector = true; decide⟩
  have n10 : cell1 d L ≠ cell0 d L := by simp [cell0, cell1]; decide
  have n20 : cell2 d L ≠ cell0 d L := by simp [cell0, cell2]; decide
  have n21 : cell2 d L ≠ cell1 d L := by simp [cell1, cell2]; decide
  unfold SparseCore.Cfg.ownSems0
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩)]

/-- The subcore's own buffers but the kernel's four. -/
abbrev otherRefs (L : grid0.Coords) : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

/-- The four scratch buffers are among the subcore's own. -/
theorem ownBufs_thr (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (otherRefs L) fun b => iprop(∃ f, ((d, b) : Loc nD τ sig) ↦{fullShare} f)) := by
  have inj {a b : Ref sig .scVector} (h : a ≠ b) :
      (Proc.scVector (cV L) (jV L)).devRef a ≠ (Proc.scVector (cV L) (jV L)).devRef b := fun e => h (Proc.devRef_injective _ e)
  have h0 : (Proc.scVector (cV L) (jV L)).devRef cc0_scratch0 ∈ ownRefs (τ := τ) (.scVector (cV L) (jV L)) :=
    SparseCore.Cfg.mem_ownRefs_of_owner rfl
  have h1 : (Proc.scVector (cV L) (jV L)).devRef cc0_scratch1 ∈ ownRefs (τ := τ) (.scVector (cV L) (jV L)) :=
    SparseCore.Cfg.mem_ownRefs_of_owner rfl
  have h2 : (Proc.scVector (cV L) (jV L)).devRef cc0_scratch2 ∈ ownRefs (τ := τ) (.scVector (cV L) (jV L)) :=
    SparseCore.Cfg.mem_ownRefs_of_owner rfl
  have h3 : (Proc.scVector (cV L) (jV L)).devRef cc0_scratch3 ∈ ownRefs (τ := τ) (.scVector (cV L) (jV L)) :=
    SparseCore.Cfg.mem_ownRefs_of_owner rfl
  have n10 := inj (show (cc0_scratch1 : Ref sig .scVector) ≠ cc0_scratch0 by decide)
  have n20 := inj (show (cc0_scratch2 : Ref sig .scVector) ≠ cc0_scratch0 by decide)
  have n21 := inj (show (cc0_scratch2 : Ref sig .scVector) ≠ cc0_scratch1 by decide)
  have n30 := inj (show (cc0_scratch3 : Ref sig .scVector) ≠ cc0_scratch0 by decide)
  have n31 := inj (show (cc0_scratch3 : Ref sig .scVector) ≠ cc0_scratch1 by decide)
  have n32 := inj (show (cc0_scratch3 : Ref sig .scVector) ≠ cc0_scratch2 by decide)
  unfold SparseCore.Cfg.ownBufs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

end Cert.Proof.Pool

end
-- ==== Proof.Values.lean ====
/-
  What the kernel computes, in plain terms. From the sixteen lengths: the running sums, in the four steps in which the
  kernel makes them, and the row of the table that each subcore then copies. From one row of 1024 numbers: sixteen partial
  sums of squares, one per lane, added up over the sixty-four chunks of the row; the sum of the sixteen lanes, folded in
  halves; its inverse square root; and the row scaled by it.
-/
module

public import proofs.«01_k».proof.Proof.Setup
public import Idealize.ShloMosaic.Lib.ValueIdxCore

@[expose] public section

noncomputable section

namespace Cert.Proof.Pool

open Cert.KernelIdeal Cert.KernelIdeal.Gen
open Idealize.ShloMosaic Idealize.ShloMosaic.ValueIdx

variable {F : FTy → Type} [FloatOps F] [Named F]

/-! ## Sixteen lanes -/

section lanes

variable {α : Type}

/-- Lane `k` of a vector of sixteen, `k` taken modulo sixteen. -/
def lane (v : S16.Idx → α) (k : ℕ) : α := v (ix1 ⟨k % 16, Nat.mod_lt _ (by norm_num)⟩)

theorem idx16_lt (x : S16.Idx) : (x 0).val < 16 := (x 0).isLt

theorem lane_idx (v : S16.Idx → α) (x : S16.Idx) : lane v (x 0).val = v x := by
  unfold lane
  congr 1
  funext a
  match a with
  | ⟨0, _⟩ => exact Fin.ext (Nat.mod_eq_of_lt (idx16_lt x))

theorem lane_eq (v : S16.Idx → α) (x : S16.Idx) (k : ℕ) (h : (x 0).val = k) : v x = lane v k := by
  rw [← h, lane_idx]

/-- Every lane moved `s` places up, `z` coming in at the bottom. -/
def up (z : α) (v : S16.Idx → α) (s : ℕ) : S16.Idx → α := fun x => if s ≤ (x 0).val then lane v ((x 0).val - s) else z

/-- Every lane moved `s` places down, `z` coming in at the top. -/
def down (z : α) (v : S16.Idx → α) (s : ℕ) : S16.Idx → α := fun x => if (x 0).val + s < 16 then lane v ((x 0).val + s) else z

end lanes

/-! ## The row to copy -/

/-- One step of the running sums: each lane adds the one `s` places below it. -/
def scan (a : IVec S16 32) (s : ℕ) : IVec S16 32 := addi a (up 0#32 a s)

/-- The running sums of the lengths. -/
def sums (a : IVec S16 32) : IVec S16 32 := scan (scan (scan (scan a 1) 2) 4) 8

/-- One less than the running sums, 32768 added where that is negative: the rows to copy. -/
def words (a : IVec S16 32) : IVec S16 32 :=
  select (cmpi .slt (subi (sums a) (broadcast S16 1#32)) (broadcast S16 0#32))
    (addi (subi (sums a) (broadcast S16 1#32)) (broadcast S16 32768#32)) (subi (sums a) (broadcast S16 1#32))

/-- Row number `r` to copy. -/
def word (a : IVec S16 32) (r : ℕ) : BitVec 32 := lane (words a) r

/-! ## The scaled row -/

/-- Element `n` of a row of 1024, `n` taken modulo 1024. -/
def col {α : Type} (x : S1x1024.Idx → α) (n : ℕ) : α := x (ix2 0 ⟨n % 1024, Nat.mod_lt _ (by norm_num)⟩)

theorem col_eq {α : Type} (x : S1x1024.Idx → α) (y : S1x1024.Idx) (n : ℕ) (h : (y 1).val = n) : x y = col x n := by
  unfold col
  congr 1
  funext a
  match a with
  | ⟨0, _⟩ => exact Fin.ext (by have : (y 0).val < 1 := (y 0).isLt; show (y 0).val = 0; omega)
  | ⟨1, _⟩ => exact Fin.ext (by have : (y 1).val < 1024 := (y 1).isLt; show (y 1).val = n % 1024; omega)

/-- Chunk `k` of the row: its elements from `16 k` on. -/
def chunk (x : S1x1024.Idx → F .f32) (k : ℕ) : FVec F S16 .f32 := fun i => col x (16 * k + (i 0).val)

/-- The sums of the squares of the first `n` chunks, lane by lane. -/
def acc (x : S1x1024.Idx → F .f32) : ℕ → FVec F S16 .f32
  | 0 => broadcast S16 (Scalar.ofBits .f32 0x00000000#32)
  | n + 1 => addf (acc x n) (mulf (chunk x n) (chunk x n))

/-- Each lane adds the one `s` places above it. -/
def fold (v : FVec F S16 .f32) (s : ℕ) : FVec F S16 .f32 := addf v (down (Scalar.ofBits .f32 0x00000000#32) v s)

/-- The sum of the squares of the row. -/
def total (x : S1x1024.Idx → F .f32) : F .f32 := lane (fold (fold (fold (fold (acc x 64) 8) 4) 2) 1) 0

/-- One of Newton's steps towards the inverse root of `t`, from `y`. -/
def newton (t y : F .f32) : F .f32 :=
  Scalar.mulf y (Scalar.subf (Scalar.ofBits .f32 0x3FC00000#32) (Scalar.mulf (Scalar.mulf (Scalar.mulf (Scalar.ofBits .f32 0x3F000000#32) t) y) y))

/-- Three of them, from the inverse root. -/
def refined (t : F .f32) : F .f32 := newton t (newton t (newton t (Scalar.rsqrt t)))

/-- The sum of the squares, bounded from below. -/
def bounded (t : F .f32) : F .f32 := Scalar.maximumf t (Named.named κ "eps_sq" 0x179ABE15#32)

/-- The factor by which the row is scaled. -/
def factor (x : S1x1024.Idx → F .f32) : F .f32 := refined (bounded (total x))

/-- The row, scaled. -/
def scaled (x : S1x1024.Idx → F .f32) : S1x1024.Idx → F .f32 := fun y => FloatOps.mulf (x y) (factor x)

/-! ## The whole result -/

/-- Row `w` of the table. -/
def tableRow (h : S32768x1024.Idx → F .f32) (w : BitVec 32) : S1x1024.Idx → F .f32 :=
  fun y => h (ix2 ⟨w.toNat % 32768, Nat.mod_lt _ (by norm_num)⟩ (y 1))

/-- The result: row `r` is row `word r` of the table, scaled. -/
def result (h : S32768x1024.Idx → F .f32) (a : IVec S16 32) : S16x1024.Idx → F .f32 :=
  fun i => scaled (tableRow h (word a (i 0).val)) (ix2 0 (i 1))

end Cert.Proof.Pool

end
-- ==== Proof.Reads.lean ====
/-
  What the kernel reads back of the scratch buffers that it has written. The lanes of a vector are moved up by a store in the
  middle third of a buffer of forty-eight words, whose first third is zero, and a load that starts a few words earlier. They
  are moved down by a store in the first half of a buffer of thirty-two numbers, whose second half is zero, and a load that
  starts a few numbers later. The gathered row is read in chunks of sixteen.
-/
module

public import proofs.«01_k».proof.Proof.Values
public import Idealize.ShloMosaic.Lib.Pipeline.Value

@[expose] public section

noncomputable section

namespace Cert.Proof.Pool

open Cert.KernelIdeal Cert.KernelIdeal.Gen
open Idealize.ShloMosaic Idealize.ShloMosaic.ValueIdx Idealize.ShloMosaic.Pipeline

variable {F : FTy → Type} [FloatOps F] [Named F]
variable {κ' : Kind} {sp : Space}

/-! ## Moving up -/

/-- After the writes `L` the first sixteen words are zero. -/
def LowZero (v : View sig κ' sp S48 .i32) (f : v.ty.Contents (Elt F)) (L : List (View.Piece (Elt F) S48 .i32)) : Prop :=
  ∀ y : S48.Idx, (y 0).val < 16 → v.read (Elt F) (v.writes (Elt F) f L) y = (0#32 : BitVec 32)

theorem lowZero_base (v : View sig κ' sp S48 .i32) (f : v.ty.Contents (Elt F)) (h32 h0) (z z' : IVec S16 32)
    (hz : ∀ i, z i = 0#32) :
    LowZero v f [⟨Rect.unit ![32] S16.size h32, z'⟩, ⟨Rect.unit ![0] S16.size h0, z⟩] := by
  intro y hy
  rw [View.read_writes_cons_miss_of_axis v f _ _ y 0 32 16 rfl rfl rfl (Or.inl (by omega)),
    View.read_writes_cons_hit_of_coords v f _ _ _ (ix1 ⟨(y 0).val, hy⟩) y
      (fun a => by match a with | ⟨0, _⟩ => show (y 0).val = 0 + 1 * (y 0).val; omega)]
  exact hz _

theorem lowZero_cons (v : View sig κ' sp S48 .i32) (f : v.ty.Contents (Elt F)) (h16) (w : IVec S16 32)
    (L : List (View.Piece (Elt F) S48 .i32)) (h : LowZero v f L) : LowZero v f (⟨Rect.unit ![16] S16.size h16, w⟩ :: L) := by
  intro y hy
  rw [View.read_writes_cons_miss_of_axis v f _ _ y 0 16 16 rfl rfl rfl (Or.inl hy)]
  exact h y hy

/-- A load that starts `s` words before the middle third reads the vector stored there, moved up `s` lanes. -/
theorem readAt_up (v : View sig κ' sp S48 .i32) (f : v.ty.Contents (Elt F)) (h16) (w : IVec S16 32)
    (L : List (View.Piece (Elt F) S48 .i32)) (h : LowZero v f L) (o s : ℕ) (hs : o + s = 16) (ho) :
    v.readAt (Elt F) (Rect.unit (s := S48) ![o] S16.size ho).toLoadRect (v.writes (Elt F) f (⟨Rect.unit ![16] S16.size h16, w⟩ :: L))
      = up 0#32 w s := by
  funext x
  have hx : (x 0).val < 16 := (x 0).isLt
  have hi : ((((Rect.unit (s := S48) ![o] S16.size ho).toLoadRect).idx x) 0).val = o + (x 0).val :=
    show o + 1 * (x 0).val = _ by omega
  rw [View.readAt_apply]
  unfold up
  split
  · rename_i hle
    have hlt : (x 0).val - s < 16 := by omega
    refine (View.read_writes_cons_hit_of_coords v f (Rect.unit (s := S48) ![16] S16.size h16) w L (ix1 ⟨(x 0).val - s, hlt⟩) _
      (fun a => by
        match a with
        | ⟨0, _⟩ =>
          show o + 1 * (x 0).val = 16 + 1 * ((x 0).val - s)
          omega)).trans ?_
    exact lane_eq w _ _ rfl
  · rename_i hle
    rw [View.read_writes_cons_miss_of_axis v f _ _ _ 0 16 16 rfl rfl rfl (Or.inl (by rw [hi]; omega))]
    exact h _ (by rw [hi]; omega)

/-- A load that starts `r` words after the middle third begins reads lane `r` first. -/
theorem readAt_lane (v : View sig κ' sp S48 .i32) (f : v.ty.Contents (Elt F)) (h16) (w : IVec S16 32)
    (L : List (View.Piece (Elt F) S48 .i32)) (off : Fin 1 → ℕ) (r : ℕ) (hr : r < 16) (hoff : off = ![r + 16]) (ho) (x : S16.Idx)
    (hx : (x 0).val = 0) :
    v.readAt (Elt F) (Rect.unit (s := S48) off S16.size ho).toLoadRect (v.writes (Elt F) f (⟨Rect.unit ![16] S16.size h16, w⟩ :: L)) x
      = lane w r := by
  subst hoff
  rw [View.readAt_apply]
  refine (View.read_writes_cons_hit_of_coords v f (Rect.unit (s := S48) ![16] S16.size h16) w L (ix1 ⟨r, hr⟩) _
    (fun a => by
      match a with
      | ⟨0, _⟩ =>
        show r + 16 + 1 * (x 0).val = 16 + 1 * r
        omega)).trans ?_
  exact lane_eq w _ _ rfl

/-! ## Moving down -/

/-- After the writes `L` the last sixteen numbers are `z`. -/
def HighZero (v : View sig κ' sp S32 .f32) (f : v.ty.Contents (Elt F)) (z : F .f32) (L : List (View.Piece (Elt F) S32 .f32)) : Prop :=
  ∀ y : S32.Idx, 16 ≤ (y 0).val → v.read (Elt F) (v.writes (Elt F) f L) y = z

theorem highZero_base (v : View sig κ' sp S32 .f32) (f : v.ty.Contents (Elt F)) (z : F .f32) (h16) (w : FVec F S16 .f32)
    (hz : ∀ i, w i = z) : HighZero v f z [⟨Rect.unit ![16] S16.size h16, w⟩] := by
  intro y hy
  have hlt : (y 0).val < 32 := (y 0).isLt
  rw [View.read_writes_cons_hit_of_coords v f _ _ _ (ix1 ⟨(y 0).val - 16, by omega⟩) y
      (fun a => by match a with | ⟨0, _⟩ => show (y 0).val = 16 + 1 * ((y 0).val - 16); omega)]
  exact hz _

theorem highZero_cons (v : View sig κ' sp S32 .f32) (f : v.ty.Contents (Elt F)) (z : F .f32) (h0) (w : FVec F S16 .f32)
    (L : List (View.Piece (Elt F) S32 .f32)) (h : HighZero v f z L) : HighZero v f z (⟨Rect.unit ![0] S16.size h0, w⟩ :: L) := by
  intro y hy
  rw [View.read_writes_cons_miss_of_axis v f _ _ y 0 0 16 rfl rfl rfl (Or.inr hy)]
  exact h y hy

/-- A load that starts `s` numbers late reads the vector stored in the first half, moved down `s` lanes. -/
theorem readAt_down (v : View sig κ' sp S32 .f32) (f : v.ty.Contents (Elt F)) (z : F .f32) (h0) (w : FVec F S16 .f32)
    (L : List (View.Piece (Elt F) S32 .f32)) (h : HighZero v f z L) (s : ℕ) (hs) :
    v.readAt (Elt F) (Rect.unit (s := S32) ![s] S16.size hs).toLoadRect (v.writes (Elt F) f (⟨Rect.unit ![0] S16.size h0, w⟩ :: L))
      = down z w s := by
  funext x
  have hi : ((((Rect.unit (s := S32) ![s] S16.size hs).toLoadRect).idx x) 0).val = s + (x 0).val :=
    show s + 1 * (x 0).val = _ by omega
  rw [View.readAt_apply]
  unfold down
  split
  · rename_i hlt
    refine (View.read_writes_cons_hit_of_coords v f (Rect.unit (s := S32) ![0] S16.size h0) w L (ix1 ⟨(x 0).val + s, hlt⟩) _
      (fun a => by
        match a with
        | ⟨0, _⟩ =>
          show s + 1 * (x 0).val = 0 + 1 * ((x 0).val + s)
          omega)).trans ?_
    exact lane_eq w _ _ rfl
  · rename_i hlt
    rw [View.read_writes_cons_miss_of_axis v f _ _ _ 0 0 16 rfl rfl rfl (Or.inr (by rw [hi]; omega))]
    exact h _ (by rw [hi]; omega)

/-! ## The lengths, and the row in chunks -/

/-- A load of all sixteen words of a buffer. -/
theorem readAt_all (v : View sig κ' sp S16 .i32) (g : v.ty.Contents (Elt F)) (a : IVec S16 32) (hg : v.read (Elt F) g = a) (h0)
    (hc : S16.ShapeCasts S16) :
    shapeCast S16 (v.readAt (Elt F) (Rect.unit (s := S16) ![0] S16.size h0).toLoadRect g) hc = a := by
  subst hg
  refine (shapeCast_self (s := S16) _ hc).trans ?_
  funext x
  rw [View.readAt_apply]
  congr 1
  funext b
  match b with
  | ⟨0, _⟩ => exact Fin.ext (show 0 + 1 * (x 0).val = (x 0).val by omega)

/-- A load of sixteen numbers of the row from `16 k` on, as a vector of sixteen lanes, is chunk `k`. -/
theorem readAt_chunk (v : View sig κ' sp S1x1024 .f32) (g : v.ty.Contents (Elt F)) (x : S1x1024.Idx → F .f32)
    (hg : v.read (Elt F) g = x) (k : ℕ) (o : ℕ) (hk : o = 16 * k) (ho) (hc : S1x16.ShapeCasts S16) :
    shapeCast S16 (v.readAt (Elt F) (Rect.unit (s := S1x1024) ![0, o] S1x16.size ho).toLoadRect g) hc = chunk x k := by
  subst hg
  funext i
  refine (shapeCast_apply _ hc i (ix2 0 (i 0)) ?_).trans ?_
  · rw [Shape.rowMajor_val_one, Shape.rowMajor_val_two]
    show 0 * 16 + (i 0).val = (i 0).val
    omega
  · rw [View.readAt_apply]
    refine col_eq _ _ _ ?_
    show o + 1 * (i 0).val = _
    omega

/-- A vector of sixteen lanes stored as a chunk of the row. -/
theorem chunk_store (w : FVec F S16 .f32) (G : S1x1024.Idx → F .f32) (o : ℕ) (ho) (hc : S16.ShapeCasts S1x16)
    (h : ∀ i : S16.Idx, w i = col G (o + (i 0).val)) (x : S1x16.Idx) :
    shapeCast S1x16 w hc x = G ((Rect.unit (s := S1x1024) ![0, o] S1x16.size ho).emb x) := by
  refine (shapeCast_apply _ hc x (ix1 (x 1)) ?_).trans ?_
  · rw [Shape.rowMajor_val_one, Shape.rowMajor_val_two]
    have : (x 0).val < 1 := (x 0).isLt
    show (x 1).val = (x 0).val * 16 + (x 1).val
    omega
  · rw [h]
    exact (col_eq G _ _ (show o + 1 * (x 1).val = o + (x 1).val by omega)).symm

/-- One more chunk in the sums of squares. -/
theorem acc_step (x : S1x1024.Idx → F .f32) (n : ℕ) {p c : FVec F S16 .f32} (hp : p = acc x n) (hc : c = chunk x n) :
    addf p (mulf c c) = acc x (n + 1) := by
  subst hp hc; rfl

/-- One more fold of the lanes. -/
theorem fold_step {p q v : FVec F S16 .f32} (s : ℕ) (hs : S16.ShapeCasts S16) (hp : p = v)
    (hq : q = down (Scalar.ofBits .f32 0x00000000#32) v s) : addf p (shapeCast S16 q hs) = fold v s := by
  subst hp hq
  exact congrArg (addf p) (shapeCast_self (s := S16) _ hs)

/-- A chunk of the row scaled and stored back. -/
theorem scaled_chunk (x : S1x1024.Idx → F .f32) (o : ℕ) (hk : o = 16 * (o / 16)) (ho) (hc : S16.ShapeCasts S1x16) {c r : FVec F S16 .f32}
    (h : c = chunk x (o / 16)) (hr : r = broadcast S16 (factor x)) (y : S1x16.Idx) :
    shapeCast S1x16 (mulf c r) hc y = scaled x ((Rect.unit (s := S1x1024) ![0, o] S1x16.size ho).emb y) := by
  refine chunk_store _ _ o ho hc (fun i => ?_) y
  subst h hr
  rw [hk]
  exact congrArg (fun n => FloatOps.mulf (col x (16 * n + (i 0).val)) (factor x)) (by omega)

/-- The bounded sum, from the vector whose first lane is the sum of all squares. -/
theorem bounded_pay (a : FVec F S16 .f32) (b c d e : Vec F S16 .f32) {v : FVec F S16 .f32}
    (h : addf (k0_pay33 a b c d) (shapeCast S16 e shapeCasts_S16_S16) = v) : k0_pay35 a b c d e = bounded (lane v 0) := by
  subst h
  exact congrArg bounded (lane_eq _ _ _ rfl)

/-- The factor in every lane, from the same vector. -/
theorem refined_pay (a : FVec F S16 .f32) (b c d e : Vec F S16 .f32) {v : FVec F S16 .f32}
    (h : addf (k0_pay33 a b c d) (shapeCast S16 e shapeCasts_S16_S16) = v) :
    k0_pay37 (k0_pay35 a b c d e) (k0_pay36 a b c d e) = broadcast S16 (refined (bounded (lane v 0))) := by
  rw [← bounded_pay a b c d e h]
  rfl

end Cert.Proof.Pool

end
-- ==== Proof.Tile.lean ====
/-
  One subcore's task, run from its first copy to its last: the lengths are copied in and summed, the subcore's row of the
  table is copied in, its squares are summed, the row is scaled and copied out. The run's values are read off step by step.
-/
module

public import proofs.«01_k».proof.Proof.Reads

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "hV" => (Memref.whole Cert.KernelIdeal.main_arg0_scv : Memref Cert.KernelIdeal.sig Kind.scVector Space.hbm Cert.KernelIdeal.S32768x1024 EltTy.f32)
local notation "nV" => (Memref.whole Cert.KernelIdeal.main_arg1_scv : Memref Cert.KernelIdeal.sig Kind.scVector Space.hbm Cert.KernelIdeal.S16 EltTy.i32)
local notation "oV" => (Memref.whole Cert.KernelIdeal.main_v0_scv : Memref Cert.KernelIdeal.sig Kind.scVector Space.hbm Cert.KernelIdeal.S16x1024 EltTy.f32)
local notation "lensV" => (Memref.whole Cert.KernelIdeal.cc0_scratch0 : Memref Cert.KernelIdeal.sig Kind.scVector Space.vmem Cert.KernelIdeal.S16 EltTy.i32)
local notation "shiV" => (Memref.whole Cert.KernelIdeal.cc0_scratch1 : Memref Cert.KernelIdeal.sig Kind.scVector Space.vmem Cert.KernelIdeal.S48 EltTy.i32)
local notation "shfV" => (Memref.whole Cert.KernelIdeal.cc0_scratch2 : Memref Cert.KernelIdeal.sig Kind.scVector Space.vmem Cert.KernelIdeal.S32 EltTy.f32)
local notation "rowV" => (Memref.whole Cert.KernelIdeal.cc0_scratch3 : Memref Cert.KernelIdeal.sig Kind.scVector Space.vmem Cert.KernelIdeal.S1x1024 EltTy.f32)

variable (m : (ℓ : Loc nD τ sig) → Buf (Elt F) ℓ)

abbrev hShPts (d : Dev nD) (r : Fin 16) : sProp 𝕄 := hLoc d ↦{q16 r} m (hLoc d)
abbrev nShPts (d : Dev nD) (r : Fin 16) : sProp 𝕄 := nLoc d ↦{q16 r} m (nLoc d)
abbrev oRowPts (d : Dev nD) (r : Fin 16) (f : Buf (Elt F) (oLoc d)) : sProp 𝕄 := oLoc d ↦[oRowSet r]{fullShare} f

/-- Three waits on the subcore's own semaphores are recorded beside those before them. -/
theorem waits_ok (W : Waits sig (HIx 1)) {a b c : SemLoc sig × HIx 1} (ha : a.2 = none) (hb : b.2 = none) (hc : c.2 = none) :
    ∀ p ∈ insert a (insert b (insert c W)), p ∈ W ∨ p.2 = none := fun p hp => by
  simp only [Finset.mem_insert] at hp
  rcases hp with rfl | rfl | rfl | hp
  exacts [.inr ha, .inr hb, .inr hc, .inl hp]

/-- Two contents that a view reads alike agree on the view's elements. -/
theorem eq_of_read {κ' : Kind} {sp : Space} {s : Shape} {e : EltTy} (v : View sig κ' sp s e) {f g : v.ty.Contents (Elt F)}
    (h : v.read (Elt F) f = v.read (Elt F) g) : ∀ i ∈ v.set, f i = g i := by
  intro i hi
  obtain ⟨y, -, rfl⟩ := Finset.mem_map.mp hi
  have e := congrFun h y
  rw [View.read_apply, View.read_apply] at e
  exact cast_inj _ |>.mp e

/-- The row written over by the scaled row of the table is the row of the result. -/
theorem row_result (d : Dev nD) (L : grid0.Coords) (f : Buf (Elt F) (oLoc d)) (h : S32768x1024.Idx → F .f32) (a : IVec S16 32) :
    ∀ i ∈ (oRowK L).view.set,
      (oRowK L).view.writes (Elt F) f [⟨Rect.whole S1x1024, scaled (tableRow h (word a (jL L).val))⟩] i = result h a i := by
  refine eq_of_read (oRowK L).view ((View.read_writes_whole (oRowK L).view f _).trans ?_)
  funext y
  have h0 : (y 0).val < 1 := (y 0).isLt
  have e0 : (((orowK L).emb y) 0).val = (jL L).val := by
    show k0_off3 L 0 + 1 * (y 0).val = (L 1).val
    rw [k0_off3_eq]
    show (L 1).val + 1 * (y 0).val = (L 1).val
    omega
  have e1 : (((orowK L).emb y) 1).val = (y 1).val := by
    show k0_off3 L 1 + 1 * (y 1).val = (y 1).val
    rw [k0_off3_eq]
    show 0 + 1 * (y 1).val = (y 1).val
    omega
  show _ = scaled (tableRow h (word a (((orowK L).emb y) 0).val)) (ix2 0 (((orowK L).emb y) 1))
  rw [e0]
  refine congrArg _ (funext fun b => Fin.ext ?_)
  match b with
  | ⟨0, _⟩ => exact (show (y 0).val = 0 by omega)
  | ⟨1, _⟩ => exact e1.symm

set_option maxHeartbeats 1000000 in
/-- One subcore's task: it returns its shares of the table and of the lengths, and its row of the result written with the
    table's row at its word of the sums, divided by its norm. -/
theorem tile_body (d : Dev nD) (L : grid0.Coords) (hchk : (word (m (nLoc d)) (jL L).val).toNat < 32768) (O : CellTallies nD τ sig (HIx 1)) (W : Waits sig (HIx 1)) (hO : ∀ g, O g none = 0) :
    iprop(levAts (K (F := F)).L (K (F := F)).lev
        ∗ (hShPts m d (jL L) ∗ nShPts m d (jL L) ∗ oRowPts d (jL L) (m (oLoc d)))
        ∗ scopedBufs (thr d L) ∗ scopedSems0 (thr d L) ∗ owes (thr d L) O W)
      ⊢ wp frame (wpE (defs₀ (F := F)) 𝒱₀ (thr d L) none) Set.univ
          (cc0__pool_body L hV (Memref.isWhole_whole _) nV (Memref.isWhole_whole _) oV (Memref.isWhole_whole _)
            lensV (Memref.isWhole_whole _) shiV (Memref.isWhole_whole _) shfV (Memref.isWhole_whole _) rowV (Memref.isWhole_whole _)
            cc0_scoped0 cc0_scoped1 cc0_scoped2)
          fun _ => iprop((hShPts m d (jL L) ∗ nShPts m d (jL L) ∗ oRowPts d (jL L) (result (m (hLoc d)) (m (nLoc d))))
            ∗ scopedBufs (thr d L) ∗ scopedSems0 (thr d L)
            ∗ ∃ W', ⌜∀ p ∈ W', p ∈ W ∨ p.2 = none⌝ ∗ owes (thr d L) O W') := by
  simp only [cc0__pool_body_eq_skeleton]; unfold cc0__pool_body_skel
  rw [(K (F := F)).scopedBufs_V facts d (cV L) (jV L), SparseCore.Cfg.scopedSems0_V (Val := Elt F) d (cV L) (jV L), ownSems0_thr, ownBufs_thr]
  iintro ⟨#Hlv, ⟨Hh, Hn, Ho⟩, ⟨⟨%f0, H0⟩, ⟨%f1, H1⟩, ⟨%f2, H2⟩, ⟨%f3, H3⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (pts_oRowK (F := F) d L _).symm) $$ Ho
  ihave Hh' := (show (hLoc d ↦{q16 (jL L)} m (hLoc d) : sProp 𝕄) ⊢ (hV).view.loc (thr d L) ↦{q16 (jL L)} m (hLoc d) from .rfl) $$ Hh
  ihave Hn' := (show (nLoc d ↦{q16 (jL L)} m (nLoc d) : sProp 𝕄) ⊢ (nV).view.loc (thr d L) ↦{q16 (jL L)} m (nLoc d) from .rfl) $$ Hn
  ihave H0' := (show ((thr d L).loc cc0_scratch0 ↦{fullShare} f0 : sProp 𝕄) ⊢ (lensV).view.loc (thr d L) ↦{fullShare} f0 from .rfl) $$ H0
  ihave H1' := (show ((thr d L).loc cc0_scratch1 ↦{fullShare} f1 : sProp 𝕄) ⊢ (shiV).view.loc (thr d L) ↦{fullShare} f1 from .rfl) $$ H1
  ihave H2' := (show ((thr d L).loc cc0_scratch2 ↦{fullShare} f2 : sProp 𝕄) ⊢ (shfV).view.loc (thr d L) ↦{fullShare} f2 from .rfl) $$ H2
  ihave H3' := (show ((thr d L).loc cc0_scratch3 ↦{fullShare} f3 : sProp 𝕄) ⊢ (rowV).view.loc (thr d L) ↦{fullShare} f3 from .rfl) $$ H3
  sl_exec
  have e8 : tile_body.sl.v8 m d L f0 = (m (nLoc d) : IVec S16 32) :=
    readAt_all _ _ _ ((View.read_write_univ ..).trans rfl) _ _
  have e11 : tile_body.sl.v11 m d L f0 = (m (nLoc d) : IVec S16 32) := (shapeCast_self _ _).trans e8
  have z2 : LowZero (F := F) (shiV).view (shiV).view.junk _ := lowZero_base _ _ inb_S48_S16_32 inb_S48_S16_0
    (shapeCast S16 tile_body.sl.v0 shapeCasts_S16_S16) (shapeCast S16 tile_body.sl.v0 shapeCasts_S16_S16) (fun _ => rfl)
  have z3 := lowZero_cons (shiV).view (shiV).view.junk inb_S48_S16_16 (tile_body.sl.v11 m d L f0) _ z2
  have e12 : tile_body.sl.v12 m d L f0 = up 0#32 (m (nLoc d) : IVec S16 32) 1 :=
    (readAt_up _ _ _ _ _ z2 15 1 rfl _).trans (congrArg (up 0#32 · 1) e11)
  have e14 : tile_body.sl.v14 m d L f0 = scan (m (nLoc d)) 1 :=
    congrArg₂ addi e8 ((shapeCast_self _ shapeCasts_S16_S16).trans e12)
  have e17 : tile_body.sl.v17 m d L f0 = scan (m (nLoc d)) 1 := (shapeCast_self _ shapeCasts_S16_S16).trans e14
  have z4 := lowZero_cons (shiV).view (shiV).view.junk inb_S48_S16_16 (tile_body.sl.v17 m d L f0) _ z3
  have e18 : tile_body.sl.v18 m d L f0 = up 0#32 (scan (m (nLoc d)) 1) 2 :=
    (readAt_up _ _ _ _ _ z3 14 2 rfl _).trans (congrArg (up 0#32 · 2) e17)
  have e20 : tile_body.sl.v20 m d L f0 = scan (scan (m (nLoc d)) 1) 2 :=
    congrArg₂ addi e14 ((shapeCast_self _ shapeCasts_S16_S16).trans e18)
  have e23 : tile_body.sl.v23 m d L f0 = scan (scan (m (nLoc d)) 1) 2 := (shapeCast_self _ shapeCasts_S16_S16).trans e20
  have z5 := lowZero_cons (shiV).view (shiV).view.junk inb_S48_S16_16 (tile_body.sl.v23 m d L f0) _ z4
  have e24 : tile_body.sl.v24 m d L f0 = up 0#32 (scan (scan (m (nLoc d)) 1) 2) 4 :=
    (readAt_up _ _ _ _ _ z4 12 4 rfl _).trans (congrArg (up 0#32 · 4) e23)
  have e26 : tile_body.sl.v26 m d L f0 = scan (scan (scan (m (nLoc d)) 1) 2) 4 :=
    congrArg₂ addi e20 ((shapeCast_self _ shapeCasts_S16_S16).trans e24)
  have e29 : tile_body.sl.v29 m d L f0 = scan (scan (scan (m (nLoc d)) 1) 2) 4 := (shapeCast_self _ shapeCasts_S16_S16).trans e26
  have e30 : tile_body.sl.v30 m d L f0 = up 0#32 (scan (scan (scan (m (nLoc d)) 1) 2) 4) 8 :=
    (readAt_up _ _ _ _ _ z5 8 8 rfl _).trans (congrArg (up 0#32 · 8) e29)
  have e32 : tile_body.sl.v32 m d L f0 = sums (m (nLoc d)) :=
    congrArg₂ addi e26 ((shapeCast_self _ shapeCasts_S16_S16).trans e30)
  have e42 : tile_body.sl.v42 m d L f0 = words (m (nLoc d)) := by
    refine (shapeCast_self _ shapeCasts_S16_S16).trans ?_
    show select (cmpi .slt (subi (tile_body.sl.v32 m d L f0) _) _) (addi (subi (tile_body.sl.v32 m d L f0) _) _)
      (subi (tile_body.sl.v32 m d L f0) _) = _
    rw [e32]
    rfl
  have e48 : tile_body.sl.v48 m d L f0 = word (m (nLoc d)) (jL L).val := by
    refine (congrFun (shapeCast_self (tile_body.sl.v45 m d L f0) shapeCasts_S16_S16) _).trans ?_
    refine (readAt_lane _ _ _ _ _ (k0_off1 L) (jL L).val (jL L).isLt (k0_off1_eq L) _ _ rfl).trans ?_
    rw [e42]
    rfl
  have hk : k0_chk1 (tile_body.sl.v48 m d L f0) := fun a => by
    rw [e48]
    unfold k0_off2
    match a with
    | ⟨0, _⟩ => show (word (m (nLoc d)) (jL L).val).toNat + 1 ≤ 32768; omega
    | ⟨1, _⟩ => exact Nat.le_refl 1024
  sl_exec
  have hrow : (rowV).view.read (Elt F) ((rowV).view.write (Elt F) f3 (tile_body.sl.dma0_1 m d L f0 hk) Finset.univ)
      = tableRow (m (hLoc d)) (word (m (nLoc d)) (jL L).val) := by
    refine (View.read_write_univ ..).trans ?_
    rw [← e48]
    funext y
    refine congrArg (m (hLoc d)) (funext fun a => Fin.ext ?_)
    match a with
    | ⟨0, _⟩ =>
      have h0 : (y 0).val < 1 := (y 0).isLt
      have h1 := hchk
      rw [← e48] at h1
      show (tile_body.sl.v48 m d L f0).toNat + 1 * (y 0).val = (tile_body.sl.v48 m d L f0).toNat % 32768
      rw [Nat.mod_eq_of_lt h1]
      omega
    | ⟨1, _⟩ => exact (show 0 + 1 * (y 1).val = (y 1).val by omega)
  obtain ⟨x, hx⟩ : ∃ x, x = tableRow (m (hLoc d)) (word (m (nLoc d)) (jL L).val) := ⟨_, rfl⟩
  rw [← hx] at hrow
  have hacc : tile_body.sl.v369 m d L f0 f3 hk = acc x 64 := by
    iterate 64 refine acc_step x _ ?_ (readAt_chunk _ _ x hrow _ _ (by rfl) _ _)
    rfl
  have y1 : HighZero (F := F) (shfV).view (shfV).view.junk (Scalar.ofBits .f32 0x00000000#32) _ :=
    highZero_base _ _ _ inb_S32_S16_16 (k0_pay27 (F := F) tile_body.sl.v49) (fun _ => rfl)
  have y2 := highZero_cons _ _ _ inb_S32_S16_0 (k0_pay28 (tile_body.sl.v369 m d L f0 f3 hk)) _ y1
  have g377 : tile_body.sl.v377 m d L f0 f3 hk = down (Scalar.ofBits .f32 0x00000000#32) (acc x 64) 8 :=
    (readAt_down _ _ _ _ _ _ y1 8 _).trans (congrArg (down _ · 8) ((shapeCast_self _ shapeCasts_S16_S16).trans hacc))
  have s1 := fold_step 8 shapeCasts_S16_S16 hacc g377
  have y3 := highZero_cons _ _ _ inb_S32_S16_0 (k0_pay30 (tile_body.sl.v369 m d L f0 f3 hk) (tile_body.sl.v377 m d L f0 f3 hk)) _ y2
  have g383 : tile_body.sl.v383 m d L f0 f3 hk = down (Scalar.ofBits .f32 0x00000000#32) (fold (acc x 64) 8) 4 :=
    (readAt_down _ _ _ _ _ _ y2 4 _).trans (congrArg (down _ · 4) ((shapeCast_self _ shapeCasts_S16_S16).trans s1))
  have s2 := fold_step 4 shapeCasts_S16_S16 s1 g383
  have y4 := highZero_cons _ _ _ inb_S32_S16_0 (k0_pay32 (tile_body.sl.v369 m d L f0 f3 hk) (tile_body.sl.v377 m d L f0 f3 hk) (tile_body.sl.v383 m d L f0 f3 hk)) _ y3
  have g389 : tile_body.sl.v389 m d L f0 f3 hk = down (Scalar.ofBits .f32 0x00000000#32) (fold (fold (acc x 64) 8) 4) 2 :=
    (readAt_down _ _ _ _ _ _ y3 2 _).trans (congrArg (down _ · 2) ((shapeCast_self _ shapeCasts_S16_S16).trans s2))
  have s3 := fold_step 2 shapeCasts_S16_S16 s2 g389
  have g395 : tile_body.sl.v395 m d L f0 f3 hk = down (Scalar.ofBits .f32 0x00000000#32) (fold (fold (fold (acc x 64) 8) 4) 2) 1 :=
    (readAt_down _ _ _ _ _ _ y4 1 _).trans (congrArg (down _ · 1) ((shapeCast_self _ shapeCasts_S16_S16).trans s3))
  have s4 := fold_step 1 shapeCasts_S16_S16 s3 g395
  have hr : k0_pay37 (tile_body.sl.r m d L f0 f3 hk) (tile_body.sl.r_1 m d L f0 f3 hk) = broadcast S16 (factor x) := refined_pay _ _ _ _ _ s4
  have hout : tile_body.sl.dma270 m d L f0 f3 hk = scaled x := by
    funext y
    refine View.read_writes_apply_of_pieces (rowV).view _ (scaled x) _ ?_ y
      (View.cover_of_tiled (tile_body.sl.H3'_64 m d L f0 f3 hk) ![1, 16] rfl y)
    unfold tile_body.sl.H3'_64
    iterate 64
      refine List.forall_mem_cons.mpr
        ⟨scaled_chunk x _ (by rfl) (by decide) shapeCasts_S16_S1x16 (readAt_chunk _ _ x hrow _ _ (by rfl) (by decide) shapeCasts_S1x16_S16) hr, ?_⟩
    exact fun p hp => absurd hp List.not_mem_nil
  rw [hout, hx]
  ihave Ho'' := (Entails.of_eq ((pointsTo_congr (row_result d L (m (oLoc d)) (m (hLoc d)) (m (nLoc d)))).trans
    (pts_oRowK (F := F) d L _))) $$ Ho'
  sl_step
  isplitl [Hh' Hn' Ho'']
  · isplitl [Hh']; · iexact Hh'
    isplitl [Hn'] <;> iassumption
  isplitl [H0' H1' H2' H3' Hbufs]
  · isplitl [H0']; · iexists _; iexact H0'
    isplitl [H1']; · iexists _; iexact H1'
    isplitl [H2']; · iexists _; iexact H2'
    isplitl [H3']; · iexists _; iexact H3'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro
  exact waits_ok W rfl rfl rfl

end Cert.Proof.Pool

end
-- ==== Proof.Launch.lean ====
/-
  The launch: the call takes the table, the lengths and the result whole, deals every subcore its shares of the first two
  and its row of the third, and has them back with the rows made. From it, the run of the whole program: it ends, the
  arguments are as they were, the result is `result` of them, and every semaphore reads zero.
-/
module

public import proofs.«01_k».proof.Proof.Tile

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

local notation "hV" => (Memref.whole Cert.KernelIdeal.main_arg0_scv : Memref Cert.KernelIdeal.sig Kind.scVector Space.hbm Cert.KernelIdeal.S32768x1024 EltTy.f32)
local notation "nV" => (Memref.whole Cert.KernelIdeal.main_arg1_scv : Memref Cert.KernelIdeal.sig Kind.scVector Space.hbm Cert.KernelIdeal.S16 EltTy.i32)
local notation "oV" => (Memref.whole Cert.KernelIdeal.main_v0_scv : Memref Cert.KernelIdeal.sig Kind.scVector Space.hbm Cert.KernelIdeal.S16x1024 EltTy.f32)
local notation "lensV" => (Memref.whole Cert.KernelIdeal.cc0_scratch0 : Memref Cert.KernelIdeal.sig Kind.scVector Space.vmem Cert.KernelIdeal.S16 EltTy.i32)
local notation "shiV" => (Memref.whole Cert.KernelIdeal.cc0_scratch1 : Memref Cert.KernelIdeal.sig Kind.scVector Space.vmem Cert.KernelIdeal.S48 EltTy.i32)
local notation "shfV" => (Memref.whole Cert.KernelIdeal.cc0_scratch2 : Memref Cert.KernelIdeal.sig Kind.scVector Space.vmem Cert.KernelIdeal.S32 EltTy.f32)
local notation "rowV" => (Memref.whole Cert.KernelIdeal.cc0_scratch3 : Memref Cert.KernelIdeal.sig Kind.scVector Space.vmem Cert.KernelIdeal.S1x1024 EltTy.f32)

variable (m : (ℓ : Loc nD τ sig) → Buf (Elt F) ℓ) (ρ : Dev nD → PrngReg)

/-! ## What the call and its tasks carry -/

abbrev hPts (d : Dev nD) : sProp 𝕄 := hLoc d ↦{fullShare} m (hLoc d)
abbrev nPts (d : Dev nD) : sProp 𝕄 := nLoc d ↦{fullShare} m (nLoc d)
abbrev oPts (d : Dev nD) (f : Buf (Elt F) (oLoc d)) : sProp 𝕄 := oLoc d ↦{fullShare} f

/-- The result that device `d` is to make of its memory. -/
abbrev made (d : Dev nD) : Buf (Elt F) (oLoc d) := result (m (hLoc d)) (m (nLoc d))

/-- The three arrays whole, the result holding `f`. -/
abbrev Whole (d : Dev nD) (f : Buf (Elt F) (oLoc d)) : sProp 𝕄 := iprop(hPts m d ∗ nPts m d ∗ oPts d f)
/-- Subcore `r`'s part of them. -/
abbrev Part (d : Dev nD) (r : Fin 16) (f : Buf (Elt F) (oLoc d)) : sProp 𝕄 :=
  iprop(hShPts m d r ∗ nShPts m d r ∗ oRowPts d r f)

/-- The call takes the arrays whole and gives them back with the result made; a task, likewise, its part. -/
def P : (K (F := F)).Pay (nD := nD) (Val := Elt F) (Name := ℕ) (U := UU) where
  st := fun q d _ => match q with | 0 => Whole m d (m (oLoc d))
  dn := fun q d _ => match q with | 0 => Whole m d (made m d)
  go := fun q d _ i => match q with | 0 => Part m d (Fin.cast nSub_eq i) (m (oLoc d))
  td := fun q d _ i => match q with | 0 => Part m d (Fin.cast nSub_eq i) (made m d)
  x := fun _ _ => iprop(emp)

instance P_storable : (P (F := F) m).IsStorable where
  st q d _ := match q with | 0 => (inferInstance : BI.Storable (upEmb : UEmb _ 𝕄) (Whole m d (m (oLoc d))))
  dn q d _ := match q with | 0 => (inferInstance : BI.Storable (upEmb : UEmb _ 𝕄) (Whole m d (made m d)))
  go q d _ i := match q with
    | 0 => (inferInstance : BI.Storable (upEmb : UEmb _ 𝕄) (Part m d (Fin.cast nSub_eq i) (m (oLoc d))))
  td q d _ i := match q with
    | 0 => (inferInstance : BI.Storable (upEmb : UEmb _ 𝕄) (Part m d (Fin.cast nSub_eq i) (made m d)))

/-- What is asked of the memory: every row number that the lengths give is one of the table's. -/
def RowsOK : Prop := ∀ (d : Dev nD) (r : Fin 16), (word (m (nLoc d)) r.val).toNat < 32768

/-! ## The task, as the launch asks for it -/

/-- The coordinates of subcore `s` of core `c`. -/
def coords (c : Fin (grid0.bound 0)) (s : Fin (grid0.bound 1)) : grid0.Coords :=
  fun | 0 => c | 1 => s | ⟨_ + 2, h⟩ => absurd h (Nat.not_lt.2 (Nat.le_add_left _ _))

theorem task_eq (c : Fin τ.nSC) (s : Fin τ.nSub) :
    defs₀ (F := F) (.scVector c s) 0 ()
      = SparseCore.onTile hcore0 hsub0 (fun c s => cc0__pool_body (coords c s)
          hV (Memref.isWhole_whole _) nV (Memref.isWhole_whole _) oV (Memref.isWhole_whole _)
          lensV (Memref.isWhole_whole _) shiV (Memref.isWhole_whole _) shfV (Memref.isWhole_whole _) rowV (Memref.isWhole_whole _)
          cc0_scoped0 cc0_scoped1 cc0_scoped2) ⟨⟩ c s := rfl

/-- Waits that are old or a subcore's own are old, a subcore's own, or the call's. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr; swap; · iexact HO
  ipureintro; exact fun p hp => (hW' p hp).imp_right Or.inl

theorem drop_emp {A B : sProp 𝕄} : iprop(A ∗ emp ∗ B) ⊢ iprop(A ∗ B) := by
  iintro ⟨HA, -, HB⟩
  isplitl [HA] <;> iassumption

set_option maxRecDepth 16384 in
theorem tasks (hok : RowsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_eq]; simp only [SparseCore.onTile, hci, and_self, ↓reduceDIte]
  exact drop_emp.trans ((tile_body m d (coords ⟨_, hci.1⟩ ⟨_, hci.2⟩) (hok d _) O W hO).trans
    (wp_mono frame _ _ fun _ => post_weaken))

/-! ## Dealing the arrays out, and taking them back -/

theorem bigSep_subcores (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

/-- The arrays whole are the sixteen parts. -/
theorem whole_eq (d : Dev nD) (f : Buf (Elt F) (oLoc d)) : Whole m d f = bigSep Finset.univ fun r : Fin 16 => Part m d r f := by
  rw [bigSep_sep', bigSep_sep']
  unfold Whole hPts nPts oPts
  rw [pts_shares, pts_shares, oPts_rows]

theorem deal : (K (F := F)).VecSplit' (P m) 0 := by
  intro d c
  show Whole m d (m (oLoc d)) ⊢ |={Set.univ}=> iprop(
      (bigSep Finset.univ fun i : Fin ((K (F := F)).nSub 0) => Part m d (Fin.cast nSub_eq i) (m (oLoc d)))
      ∗ ((bigSep Finset.univ fun i : Fin ((K (F := F)).nSub 0) => Part m d (Fin.cast nSub_eq i) (made m d)) -∗ Whole m d (made m d)))
  rw [bigSep_subcores (F := F) (fun r => Part m d r (m (oLoc d))), bigSep_subcores (F := F) (fun r => Part m d r (made m d)),
    ← whole_eq, ← whole_eq]
  iintro H; imodintro
  isplitl [H]; · iexact H
  iintro H; iexact H

/-! ## The ghost state at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr)
      = (iprop(emp) : sProp 𝕄) :=
    (bigSep_congr fun _ _ => bigSep_univ_of_subsingleton (0 : Fin 1)).trans (bigSep_emp_const _)
  have he : (bigSep Finset.univ fun _ : Dev nD => iprop(emp)) = (iprop(emp) : sProp 𝕄) := bigSep_emp_const _
  rw [hx, he]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The main program -/

theorem unscopedBufs_eq (d : Dev nD) (W : (b : Ref sig .tc) → Buf (Elt F) ((d.tc : Thread nD τ).loc b)) :
    (unscopedBufs d W : sProp 𝕄) = iprop((hLoc d ↦{fullShare} W main_arg0) ∗ (nLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Whole m d (made m d) ∗ (K (F := F)).tcEnd d) := by
  have hst : (bigSep Finset.univ fun c : Fin ((K (F := F)).nCore 0) => (P m).st 0 d c) = Whole m d (m (oLoc d)) :=
    bigSep_univ_of_subsingleton (0 : Fin 1)
  have hdn : (bigSep Finset.univ fun c : Fin ((K (F := F)).nCore 0) => (P m).dn 0 d c) = Whole m d (made m d) :=
    bigSep_univ_of_subsingleton (0 : Fin 1)
  unfold SparseCore.Cfg.tcRes SparseCore.Cfg.tcEnd
  rw [unscopedBufs_eq]
  simp only [main, wp_bind, wp_pure]
  iintro ⟨#Hctx, Hst, ⟨Hb, Hw, Hts, -⟩, -⟩
  iapply ((K (F := F)).wp_run (D (F := F)) 𝒱 (EH := EH) (P := P m) κ d 0) $$ [Hst Hw Hb Hts]
  isplitr; · iexact Hctx
  isplitl [Hst]; · iexact Hst
  isplitl [Hw]
  · rw [hst]; iexact Hw
  iintro ⟨Hst, Hdn⟩
  ihave Hw := (Entails.of_eq hdn) $$ Hdn
  imodintro
  isplitl [Hst]; · iexact Hst
  isplitr [Hb Hts]; · iexact Hw
  isplitl [Hb] <;> iassumption

/-- The three arrays' contents when the program has ended. -/
def Ended (d : Dev nD) (s' : Phys nD τ sig (Elt F)) : Prop :=
  s'.mem.mem (oLoc d) = made m d ∧ s'.mem.mem (hLoc d) = m (hLoc d) ∧ s'.mem.mem (nLoc d) = m (nLoc d)

set_option maxRecDepth 16384 in
theorem hfin (d : Dev nD) (s' : Phys nD τ sig (Elt F)) : iprop(Whole m d (made m d) ∗ SI s') ⊢ (⌜Ended m d s'⌝ : sProp 𝕄) := by
  iintro ⟨⟨Hh, Hn, Ho⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%h1, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h2, HSI, -⟩
  ihave H := (SI_pointsTo_agree (st := s') (ℓ := oLoc d) (I := Finset.univ) (q := fullShare) (f := made m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The whole run -/

/-- What holds of the memory and the semaphores at the end. -/
def AtEnd : PUnit × MemSt nD τ sig (Elt F) → Prop := fun r =>
  (∀ c : Dev nD, r.2.mem (oLoc c) = made m c ∧ r.2.mem (hLoc c) = m (hLoc c) ∧ r.2.mem (nLoc c) = m (nLoc c)) ∧ r.2.sem = fun _ => 0

theorem run_main [∀ e, Nonempty (Elt F e)] (hok : RowsOK m) :
    θ_run (Cert.KernelIdeal.defs (F := F)) (Cert.KernelIdeal.threads (F := F)) ⟨m, fun _ => 0, ρ⟩ (AtEnd m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tasks m hok)
    (fun q _ => match q with | 0 => SparseCore.Cfg.VecSplit.of_plain (deal m))
    m ρ main (fun _ => iprop(emp)) (fun d => Whole m d (made m d)) (u₀ (F := F)) (sep_elim_left.trans (hu₀ m)) (hmain m ρ)
    (Ended m) (hfin m) (AtEnd m) (fun _ h hz => ⟨h, hz⟩)

end Cert.Proof.Pool

end
-- ==== Proof.Sums.lean ====
/-
  The integer half: the four steps make the running sums of the lengths; with every length from 0 to 2047 the sums do not
  wrap, so every row number that the lengths give is one of the table's 32768; and the precondition says just that of the
  lengths.
-/
module

public import proofs.«01_k».proof.Proof.Values
public import proofs.«01_k».proof.Proof.Gen.Pre_lens_in_range
public import Idealize.ShloMosaic.Lib.ReduceAll
public import Mathlib.Data.BitVec
public import Mathlib.Tactic.IntervalCases
public import Mathlib.Tactic.Abel

@[expose] public section

noncomputable section

namespace Cert.Proof.Pool

open Cert.KernelIdeal Cert.KernelIdeal.Gen
open Idealize.ShloMosaic Idealize.ShloMosaic.ValueIdx

/-- One step of the running sums, lane by lane. -/
theorem lane_scan (a : IVec S16 32) (s r : ℕ) (hr : r < 16) :
    lane (scan a s) r = lane a r + if s ≤ r then lane a (r - s) else 0 := by
  have hm : r % 16 = r := Nat.mod_eq_of_lt hr
  show lane a r + (if s ≤ r % 16 then lane a (r % 16 - s) else 0#32) = _
  rw [hm]
  rfl

/-- The four steps make the running sums. -/
theorem lane_sums (a : IVec S16 32) (r : ℕ) (hr : r < 16) : lane (sums a) r = ∑ k ∈ Finset.range (r + 1), lane a k := by
  unfold sums
  interval_cases r <;> simp [lane_scan, Finset.sum_range_succ] <;> abel

/-- Every length is from 0 to 2047. -/
def InRange (a : IVec S16 32) : Prop := ∀ i, (a i).toNat < 2048

/-- The running sums do not wrap. -/
theorem toNat_sum_le (a : IVec S16 32) (h : InRange a) (n : ℕ) (hn : n ≤ 16) :
    (∑ k ∈ Finset.range n, lane a k).toNat ≤ 2047 * n := by
  induction n with
  | zero => simp
  | succ n ih =>
    have h1 := ih (by omega)
    have h2 : (lane a n).toNat < 2048 := h _
    rw [Finset.sum_range_succ, BitVec.toNat_add]
    omega

/-- One less than a sum, 32768 added where that is negative, is less than 32768. -/
theorem wrap_lt (s : BitVec 32) (h : s.toNat ≤ 32752) :
    (if BitVec.slt (s - 1#32) 0#32 then s - 1#32 + 32768#32 else s - 1#32).toNat < 32768 := by
  by_cases h0 : s.toNat = 0
  · obtain rfl : s = 0#32 := BitVec.eq_of_toNat_eq h0
    decide
  · have e : (s - 1#32).toNat = s.toNat - 1 := by
      rw [BitVec.toNat_sub]
      show (2 ^ 32 - 1 + s.toNat) % 2 ^ 32 = _
      omega
    have hn : ¬ BitVec.slt (s - 1#32) 0#32 = true := by
      rw [BitVec.slt_eq_decide, decide_eq_true_eq, BitVec.toInt_eq_toNat_cond, e, if_pos (by omega)]
      show ¬ ((s.toNat - 1 : ℕ) : ℤ) < 0
      omega
    rw [if_neg hn, e]
    omega

/-- Every row number that the lengths give is one of the table's. -/
theorem word_lt (a : IVec S16 32) (h : InRange a) (r : ℕ) (hr : r < 16) : (word a r).toNat < 32768 := by
  have hs : (lane (sums a) r).toNat ≤ 32752 := by
    rw [lane_sums a r hr]
    exact (toNat_sum_le a h (r + 1) (by omega)).trans (by omega)
  have e : word a r = if BitVec.slt (lane (sums a) r - 1#32) 0#32 then lane (sums a) r - 1#32 + 32768#32 else lane (sums a) r - 1#32 := by
    show Scalar.select (IntOp.cmpi .slt (lane (sums a) r - 1#32) 0#32) _ _ = _
    unfold IntOp.cmpi Scalar.select
    cases BitVec.slt (lane (sums a) r - 1#32) 0#32 <;> rfl
  rw [e]
  exact wrap_lt _ hs

variable {F : FTy → Type} [FloatOps F]

/-- The precondition puts every length in range. -/
theorem inRange_of_pre (h : FVec F Cert.Pre_lens_in_range.S32768x1024 .f32) (a : IVec S16 32)
    (hp : Cert.Pre_lens_in_range.fn (F := F) h a = fun _ => 1#1) : InRange a := by
  intro i
  have e := Host.reduce_andi_eq_one _ _ Cert.Pre_lens_in_range.Gen.reducesTo_S16_S_d0 Cert.Pre_lens_in_range.Gen.h_S_ ix0
    (congrFun hp ix0) i (Subsingleton.elim _ _)
  obtain ⟨e1, e2⟩ := IntOp.andi_eq_one.1 (show IntOp.andi (IntOp.cmpi .sge (a i) 0#32) (IntOp.cmpi .slt (a i) 2048#32) = 1#1 from e)
  have ofBool_one (p : Bool) : BitVec.ofBool p = 1#1 ↔ p = true := by cases p <;> decide
  simp only [IntOp.cmpi, ofBool_one, BitVec.sle_eq_decide, BitVec.slt_eq_decide, decide_eq_true_eq,
    BitVec.toInt_eq_toNat_cond, BitVec.toNat_ofNat, Nat.reducePow, Nat.reduceMod] at e1 e2
  omega

end Cert.Proof.Pool

end
-- ==== Proof.Frames.lean ====
/-
  The frames of the kernel: at the chip's floats the printed program is the one whose run is proved, its one named
  constant read as its bits; at the extended reals it is that program as it stands.
-/
module

public import proofs.«01_k».proof.Proof.Launch
public import proofs.«01_k».proof.Proof.Sums
public import proofs.«01_k».proof.Proof.Gen.Kernel

@[expose] public section

noncomputable section

namespace Cert.Proof.Pool

open Idealize.ShloMosaic Idealize.SL.Sem

/-- At the chip's floats a named constant is its bits. -/
local instance namedBits : Named Bits where
  named _ _ {φ} b := Scalar.ofBits φ b

theorem frame_ideal : Cert.quiescent_KernelIdeal := fun m ρ hpre =>
  (θ_run Cert.KernelIdeal.defs _ _).mono (fun _ h => ⟨fun c => (h.1 c).2, h.2⟩)
    (run_main (F := Ideal) m ρ fun d r => word_lt _ (inRange_of_pre _ _ (hpre d)) r.val r.isLt)

set_option maxRecDepth 65536 in
theorem run_bits (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop)
    (h : θ_run (Cert.KernelIdeal.defs (F := Bits)) (Cert.KernelIdeal.threads (F := Bits)) ⟨m, fun _ => 0, ρ⟩ Q) :
    θ_run (Cert.Kernel.defs (F := Bits)) (Cert.Kernel.threads (F := Bits)) ⟨m, fun _ => 0, ρ⟩ Q := h

theorem frame_bits : Cert.quiescent_Kernel := fun m ρ hpre =>
  run_bits m ρ _ ((θ_run Cert.KernelIdeal.defs _ _).mono (fun _ h => ⟨fun c => (h.1 c).2, h.2⟩)
    (run_main (F := Bits) m ρ fun d r => word_lt _ (inRange_of_pre _ _ (hpre d)) r.val r.isLt))

end Cert.Proof.Pool

end
-- ==== Proof.Norms.lean ====
/-
  The kernel's factor at the extended reals: the lanes, folded, hold the sum of all 1024 squares, and the inverse root of the
  greater of that sum and `ε²` is the inverse of the greater of the sum's root and `ε`. Newton's steps, which start from that
  inverse root, stay there. No number need be finite: squares are not negative, and with an infinite sum both are zero.
-/
module

public import proofs.«01_k».proof.Proof.Values
public import Idealize.ShloMosaic.PureOps.Ideal
public import Idealize.ShloMosaic.PureOps.Ideal.Laws
public import Mathlib.Tactic.Abel

@[expose] public section

noncomputable section

namespace Cert.Proof.Pool

open Cert.KernelIdeal Cert.KernelIdeal.Gen
open Idealize.ShloMosaic Idealize.ShloMosaic.ValueIdx

/-! ## The sum of the squares -/

theorem lane_fold (v : FVec Ideal S16 .f32) (s r : ℕ) (hr : r < 16) :
    lane (fold v s) r = (lane v r + if r + s < 16 then lane v (r + s) else 0 : EReal) := by
  have hm : r % 16 = r := Nat.mod_eq_of_lt hr
  show (lane v r + (if r % 16 + s < 16 then lane v (r % 16 + s) else Ideal.ofBits .f32 0x00000000#32) : EReal) = _
  rw [hm, Ideal.ofBits_zero_f32]

/-- Lane `j` after `n` chunks. -/
theorem lane_acc (x : S1x1024.Idx → Ideal .f32) (j : ℕ) (hj : j < 16) (n : ℕ) :
    lane (acc x n) j = (∑ k ∈ Finset.range n, col x (16 * k + j) * col x (16 * k + j) : EReal) := by
  have hm : j % 16 = j := Nat.mod_eq_of_lt hj
  induction n with
  | zero => exact Ideal.ofBits_zero_f32
  | succ n ih =>
    rw [Finset.sum_range_succ, ← ih]
    show (lane (acc x n) j + col x (16 * n + j % 16) * col x (16 * n + j % 16) : EReal) = _
    rw [hm]

/-- The lanes, folded in halves, add up. -/
theorem fold_all (v : FVec Ideal S16 .f32) :
    lane (fold (fold (fold (fold v 8) 4) 2) 1) 0 = (∑ j ∈ Finset.range 16, lane v j : EReal) := by
  simp [lane_fold, Finset.sum_range_succ]
  abel

theorem total_eq (x : S1x1024.Idx → Ideal .f32) : total x = (∑ k : Fin 1024, x (ix2 0 k) * x (ix2 0 k) : EReal) := by
  unfold total
  rw [fold_all, Finset.sum_congr rfl fun j hj => lane_acc x j (Finset.mem_range.mp hj) 64]
  simp only [Finset.sum_range]
  rw [Finset.sum_comm, ← Fintype.sum_prod_type',
    ← finProdFinEquiv.sum_comp (fun k : Fin (64 * 16) => (x (ix2 0 k) * x (ix2 0 k) : EReal))]
  refine Finset.sum_congr rfl fun p _ => ?_
  have e : x (ix2 0 (finProdFinEquiv p)) = col x (16 * p.1.val + p.2.val) :=
    col_eq x _ _ (show p.2.val + 16 * p.1.val = 16 * p.1.val + p.2.val by omega)
  exact (congrArg (fun t : EReal => t * t) e).symm

/-- Squares are not negative. -/
theorem mul_self_nonneg' (t : EReal) : 0 ≤ t * t := by
  rcases le_total 0 t with h | h
  · exact EReal.mul_nonneg h h
  · rw [← neg_mul_neg]
    have h' : (0 : EReal) ≤ -t := by simpa using EReal.neg_le_neg_iff.mpr h
    exact EReal.mul_nonneg h' h'

/-! ## The factor -/

/-- The least norm by which a row is divided: the float nearest `10 ^ (-12)`. -/
abbrev ε : ℝ := 2305843 / 2305843009213693952

theorem eps_pos : 0 < ε := by norm_num

theorem eps_bits : Ideal.ofBits .f32 0x2B8CBCCC#32 = (ε : EReal) := by
  simp [Ideal.ofBits, Ideal.ieee, -EReal.coe_mul]
  norm_num

/-- The inverse root of the greater of a sum and `ε²`. -/
theorem rsqrt_max (t : EReal) (ht : 0 ≤ t) :
    Ideal.rsqrt (max t ((5316911940649 / 5316911983139663491615228241121378304 : ℝ) : EReal)) = (max (Ideal.sqrt t) (ε : EReal))⁻¹ := by
  have hε : (5316911940649 / 5316911983139663491615228241121378304 : ℝ) = ε ^ 2 := by norm_num
  rw [hε]
  induction t with
  | bot => exact absurd ht (by decide)
  | top =>
    have h1 : max (⊤ : EReal) ((ε ^ 2 : ℝ) : EReal) = ⊤ := max_eq_left le_top
    have h2 : max (Ideal.sqrt ⊤) (ε : EReal) = ⊤ := max_eq_left le_top
    rw [h1, h2, EReal.inv_top]
    rfl
  | coe r =>
    have hr : 0 ≤ r := by exact_mod_cast ht
    have hp : 0 < max r (ε ^ 2) := lt_max_of_lt_right (pow_pos eps_pos 2)
    have hs : Real.sqrt (max r (ε ^ 2)) = max (Real.sqrt r) ε := by
      rw [← Real.sqrt_sq eps_pos.le, ← Real.sqrt_monotone.map_max, Real.sqrt_sq eps_pos.le]
    rw [← EReal.coe_strictMono.monotone.map_max]
    show (if max r (ε ^ 2) < 0 then (⊥ : EReal) else if max r (ε ^ 2) = 0 then ⊤ else (((Real.sqrt (max r (ε ^ 2)))⁻¹ : ℝ) : EReal))
      = (max (if r < 0 then (⊥ : EReal) else ((Real.sqrt r : ℝ) : EReal)) (ε : EReal))⁻¹
    rw [if_neg (not_lt.mpr hp.le), if_neg hp.ne', if_neg (not_lt.mpr hr), hs,
      ← EReal.coe_strictMono.monotone.map_max, EReal.coe_inv]

theorem half_bits : Ideal.ofBits .f32 0x3F000000#32 = ((1 / 2 : ℝ) : EReal) := by
  simp [Ideal.ofBits, Ideal.ieee, -EReal.coe_mul]
  norm_num

theorem three_halves_bits : Ideal.ofBits .f32 0x3FC00000#32 = ((3 / 2 : ℝ) : EReal) := by
  simp [Ideal.ofBits, Ideal.ieee, -EReal.coe_mul]
  norm_num

/-- Newton's step stays at the inverse root of a positive number, of `⊤` too. -/
theorem newton_rsqrt (t : EReal) (ht : 0 < t) : newton (F := Ideal) t (Ideal.rsqrt t) = Ideal.rsqrt t := by
  show (Ideal.rsqrt t * (Ideal.ofBits .f32 0x3FC00000#32 - Ideal.ofBits .f32 0x3F000000#32 * t * Ideal.rsqrt t * Ideal.rsqrt t) : EReal) = _
  induction t with
  | bot => exact absurd ht (by decide)
  | top =>
    rw [show Ideal.rsqrt ⊤ = 0 from rfl]
    exact zero_mul _
  | coe r =>
    have hr : 0 < r := by exact_mod_cast ht
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    have hs : r * (Real.sqrt r)⁻¹ * (Real.sqrt r)⁻¹ = 1 := by
      rw [mul_assoc, ← mul_inv, Real.mul_self_sqrt hr.le, mul_inv_cancel₀ hr.ne']
    rw [e, half_bits, three_halves_bits]
    norm_cast
    rw [mul_assoc (1 / 2 * r), mul_assoc (1 / 2 : ℝ), ← mul_assoc r, hs]
    ring

/-- Newton's three steps change nothing. -/
theorem refined_eq (t : EReal) (ht : 0 < t) : refined (F := Ideal) t = Ideal.rsqrt t := by
  show newton (F := Ideal) t (newton (F := Ideal) t (newton (F := Ideal) t (Ideal.rsqrt t))) = _
  rw [newton_rsqrt t ht, newton_rsqrt t ht, newton_rsqrt t ht]

/-- The factor is the inverse of the row's norm, of `ε` where the norm is less. -/
theorem factor_eq (x : S1x1024.Idx → Ideal .f32) :
    factor x = ((max (Ideal.sqrt (∑ k : Fin 1024, x (ix2 0 k) * x (ix2 0 k) : EReal)) (ε : EReal))⁻¹ : EReal) := by
  rw [← rsqrt_max _ (Finset.sum_nonneg fun k _ => mul_self_nonneg' _), ← total_eq]
  refine refined_eq (max (total x) ((5316911940649 / 5316911983139663491615228241121378304 : ℝ) : EReal)) (lt_max_of_lt_right ?_)
  exact_mod_cast (by norm_num : (0 : ℝ) < 5316911940649 / 5316911983139663491615228241121378304)

theorem norm_pos (t : EReal) : max t (ε : EReal) ≠ 0 :=
  (lt_of_lt_of_le (by exact_mod_cast eps_pos) (le_max_right t _)).ne'

end Cert.Proof.Pool

end
-- ==== Proof.Reference.lean ====
/-
  The reference: what its program computes, in pieces; that the pieces, for lengths in range, are the kernel's row numbers,
  the rows of the table that they name, and the rows' norms; and its frames.
-/
module

public import proofs.«01_k».proof.Defs
public import proofs.«01_k».proof.Proof.Sums
public import proofs.«01_k».proof.Proof.Norms
public import proofs.«01_k».proof.Proof.Gen.ReferenceIdeal.Run
public import Idealize.ShloMosaic.Lib.Routing.Ops
public import Idealize.ShloMosaic.Lib.Routing.OpsOne
public import Idealize.ShloMosaic.Lib.Quiescent
public import Idealize.ShloMosaic.Lib.Pointwise.Reduce

@[expose] public section

noncomputable section

namespace Cert.Proof.Ref

open Cert.ReferenceIdeal Cert.ReferenceIdeal.Gen
open Idealize.ShloMosaic hiding ix0 ix1 ix2
open Idealize.ShloMosaic.ValueIdx Idealize.SL.Sem
open Cert.Proof.Pool (lane word words sums tableRow InRange)

variable {F : FTy → Type} [FloatOps F]

/-! ## The pieces -/

/-- The running sums of the lengths. -/
def cums (a : IVec S16 32) : IVec S16 32 :=
  Host.reduceWindow IntOp.addi ![16] ![1] ![15] ![0] a (broadcastInDim S_ ![] bcast_S_S_ (constantI S_ 32 0#32)) reduceWindows_S16_S16_w16s1p15_0 h_S_

/-- One less than the running sums. -/
def lasts (a : IVec S16 32) : IVec S16 32 := subi (cums a) (broadcastInDim S16 ![] bcast_S_S16 (constantI S_ 32 1#32))

/-- The same, 32768 added where it is negative. -/
def wrapped (a : IVec S16 32) : IVec S16 32 :=
  select (cmpi .slt (lasts a) (broadcastInDim S16 ![] bcast_S_S16 (constantI S_ 32 0#32)))
    (addi (lasts a) (broadcastInDim S16 ![] bcast_S_S16 (constantI S_ 32 32768#32))) (lasts a)

/-- The row numbers, in a column. -/
def rows (a : IVec S16 32) : IVec S16x1 32 := broadcastInDim S16x1 ![0] bcast_S16_S16x1_0 (wrapped a)

/-- Where a row number is one of the table's. -/
def inside (a : IVec S16 32) : IVec S16 1 :=
  Host.reduce IntOp.andi
    (andi (cmpi .sge (rows a) (broadcastInDim S16x1 ![] bcast_S_S16x1 (constantI S_ 32 0#32)))
      (cmpi .sle (rows a) (broadcastInDim S16x1 ![0, 1] bcast_S1x1_S16x1_0_1 (broadcastInDim S1x1 ![1] bcast_S1_S1x1_1 (constantI S1 32 32767#32)))))
    (constantI S_ 1 1#1) reducesTo_S16x1_S16_d1 h_S_

/-- The rows taken. -/
def taken (h : FVec F S32768x1024 .f32) (a : IVec S16 32) : FVec F S16x1024 .f32 :=
  select (broadcastInDim S16x1024 ![0] bcast_S16_S16x1024_0 (inside a))
    (Host.gather gather_S32768x1024_S16x1_S16x1024_1_0_n_n_0_1_11024 h (rows a))
    (broadcastInDim S16x1024 ![] bcast_S_S16x1024 (constant S_ .f32 0x7FC00000#32))

/-- The norms by which the rows are divided. -/
def norms (x : FVec F S16x1024 .f32) : FVec F S16x1 .f32 :=
  maximumf
    (Host.sqrt (broadcastInDim S16x1 ![0] bcast_S16_S16x1_0
      (Host.reduceAdd (mulf x x) (constant S_ .f32 0x00000000#32) reducesTo_S16x1024_S16_d1 h_S_)))
    (broadcastInDim S16x1 ![] bcast_S_S16x1 (constant S_ .f32 0x2B8CBCCC#32))

/-- The result. -/
def value (h : FVec F S32768x1024 .f32) (a : IVec S16 32) : FVec F S16x1024 .f32 :=
  Host.divf (taken h a) (broadcastInDim S16x1024 ![0, 1] bcast_S16x1_S16x1024_0_1 (norms (taken h a)))

theorem res_eq (m : (ℓ : Loc nD τ sig) → Buf (Elt F) ℓ) (c : Dev nD) :
    Value.res_main_v8 m c = value (F := F) (m ((c.tc : Thread nD τ).loc main_arg0)) (m ((c.tc : Thread nD τ).loc main_arg1)) := by
  unfold Value.res_main_v8 value norms taken inside rows wrapped lasts cums
  rfl

/-! ## The row numbers -/

theorem cums_eq (a : IVec S16 32) : cums a = sums a := by
  funext x
  have hx : (x 0).val < 16 := (x 0).isLt
  rw [← Cert.Proof.Pool.lane_idx (sums a) x, Cert.Proof.Pool.lane_sums a _ hx, ← Cert.Proof.Pool.lane_idx (cums a) x]
  unfold lane cums
  have e : (⟨(x 0).val % 16, Nat.mod_lt _ (by norm_num)⟩ : Fin 16) = ⟨(x 0).val, hx⟩ := Fin.ext (Nat.mod_eq_of_lt hx)
  rw [e]
  refine (Routing.cumsum_vec (N := 16) (Nm1 := 15) rfl a _ rfl _ _ _).trans ?_
  rw [← Finset.sum_filter]
  refine Finset.sum_bij' (fun i _ => i.val) (fun k hk => ⟨k, by have := Finset.mem_range.mp hk; omega⟩) ?_ ?_ ?_ ?_ ?_
  · intro i hi
    have : i ≤ ⟨(x 0).val, hx⟩ := (Finset.mem_filter.mp hi).2
    exact Finset.mem_range.mpr (Nat.lt_succ_of_le (Fin.le_def.mp this))
  · intro k hk
    exact Finset.mem_filter.mpr ⟨Finset.mem_univ _, Fin.le_def.mpr (Nat.le_of_lt_succ (Finset.mem_range.mp hk))⟩
  · intro i _
    rfl
  · intro k _
    rfl
  · intro i _
    exact congrArg (fun t => a (ix1 t)) (Fin.ext (Nat.mod_eq_of_lt i.isLt).symm)

theorem wrapped_eq (a : IVec S16 32) : wrapped a = words a := by
  unfold wrapped lasts
  rw [cums_eq]
  rfl

theorem rows_apply (a : IVec S16 32) (c : Fin 16) : rows a (ix2 c (0 : Fin 1)) = word a c.val := by
  unfold rows word
  rw [wrapped_eq]
  refine (broadcastInDim_apply (t := S16x1) (s := S16) ![0] bcast_S16_S16x1_0 (words a) (ix2 c 0) (ix1 c) ?_).trans ?_
  · intro d
    match d with
    | ⟨0, _⟩ => rfl
  · exact Cert.Proof.Pool.lane_eq _ _ _ rfl

/-! ## The rows taken -/

/-- A row number in range passes both tests. -/
theorem inside_test (w : BitVec 32) (h : w.toNat < 32768) : IntOp.andi (IntOp.cmpi .sge w 0#32) (IntOp.cmpi .sle w 32767#32) = 1#1 := by
  have ofBool_one (p : Bool) : BitVec.ofBool p = 1#1 ↔ p = true := by cases p <;> decide
  refine IntOp.andi_eq_one.2 ⟨?_, ?_⟩ <;>
    simp only [IntOp.cmpi, ofBool_one, BitVec.sle_eq_decide, decide_eq_true_eq, BitVec.toInt_eq_toNat_cond, BitVec.toNat_ofNat,
      Nat.reducePow, Nat.reduceMod] <;> omega

theorem inside_eq (a : IVec S16 32) (ha : InRange a) (j : S16.Idx) : inside a j = 1#1 := by
  refine Host.reduce_andi_one _ _ _ _ j rfl fun i => ?_
  have hi : i = ix2 (i 0) (0 : Fin 1) := by
    funext d
    match d with
    | ⟨0, _⟩ => rfl
    | ⟨1, _⟩ => exact Fin.ext (by have : (i 1).val < 1 := (i 1).isLt; show (i 1).val = 0; omega)
  show IntOp.andi (IntOp.cmpi .sge (rows a i) 0#32) (IntOp.cmpi .sle (rows a i) 32767#32) = 1#1
  refine inside_test _ ?_
  rw [hi]
  exact (congrArg BitVec.toNat (rows_apply a (i 0))).trans_lt (Cert.Proof.Pool.word_lt a ha _ (i 0).isLt)

theorem taken_apply (h : FVec F S32768x1024 .f32) (a : IVec S16 32) (ha : InRange a) (c : Fin 16) (k : Fin 1024) :
    taken h a (ix2 c k) = tableRow h (word a c.val) (ix2 0 k) := by
  have hw := Cert.Proof.Pool.word_lt a ha c.val c.isLt
  have e : broadcastInDim S16x1024 ![0] bcast_S16_S16x1024_0 (inside a) (ix2 c k) = 1#1 :=
    inside_eq a ha _
  show Scalar.select (broadcastInDim S16x1024 ![0] bcast_S16_S16x1024_0 (inside a) (ix2 c k)) _ _ = _
  rw [e]
  refine (if_pos rfl).trans ?_
  refine Routing.gather_row (nb := 32768) (B := 1024) (n := 16) _ rfl rfl rfl rfl rfl h (rows a) c k
    ⟨(word a c.val).toNat % 32768, Nat.mod_lt _ (by norm_num)⟩ ?_ (by norm_num)
  rw [rows_apply]
  show word a c.val = BitVec.ofNat 32 ((word a c.val).toNat % 32768)
  rw [Nat.mod_eq_of_lt hw, BitVec.ofNat_toNat, BitVec.setWidth_eq]

/-! ## The norms and the result -/

open Cert.Proof.Pool (ε) in
theorem norms_apply (x : FVec Ideal S16x1024 .f32) (c : Fin 16) :
    norms x (ix2 c (0 : Fin 1)) = max (Ideal.sqrt (∑ k : Fin 1024, x (ix2 c k) * x (ix2 c k) : EReal)) (ε : EReal) := by
  have e : broadcastInDim S16x1 ![0] bcast_S16_S16x1_0
      (Host.reduceAdd (mulf x x) (constant S_ .f32 0x00000000#32) reducesTo_S16x1024_S16_d1 h_S_) (ix2 c (0 : Fin 1))
      = (∑ k : Fin 1024, x (ix2 c k) * x (ix2 c k) : EReal) := by
    refine (broadcastInDim_apply (t := S16x1) (s := S16) ![0] bcast_S16_S16x1_0 _ (ix2 c 0) (ix1 c) ?_).trans ?_
    · intro d
      match d with
      | ⟨0, _⟩ => rfl
    · rw [Host.reduceAdd_apply]
      refine (Ideal.hostReduceAdd_r2_a1 reducesTo_S16x1024_S16_d1 (mulf x x) _ (ix1 c)).trans ?_
      refine (congrArg (· + _) (Ideal.ofBits_zero_f32)).trans ((zero_add _).trans ?_)
      rfl
  show max (Ideal.sqrt (broadcastInDim S16x1 ![0] bcast_S16_S16x1_0
      (Host.reduceAdd (mulf x x) (constant S_ .f32 0x00000000#32) reducesTo_S16x1024_S16_d1 h_S_) (ix2 c (0 : Fin 1))))
    (Ideal.ofBits .f32 0x2B8CBCCC#32) = _
  rw [e, Cert.Proof.Pool.eps_bits]

/-- For lengths in range the reference computes what the kernel does. -/
theorem value_eq (h : FVec Ideal S32768x1024 .f32) (a : IVec S16 32) (ha : InRange a) : value h a = Cert.Proof.Pool.result h a := by
  funext i
  obtain ⟨c, k, rfl⟩ : ∃ (c : Fin 16) (k : Fin 1024), i = ix2 c k := ⟨i 0, i 1, by
    funext d
    match d with
    | ⟨0, _⟩ => rfl
    | ⟨1, _⟩ => rfl⟩
  have en : broadcastInDim S16x1024 ![0, 1] bcast_S16x1_S16x1024_0_1 (norms (taken h a)) (ix2 c k) = norms (taken h a) (ix2 c (0 : Fin 1)) := by
    refine broadcastInDim_apply (t := S16x1024) (s := S16x1) ![0, 1] bcast_S16x1_S16x1024_0_1 _ (ix2 c k) (ix2 c 0) ?_
    intro d
    match d with
    | ⟨0, _⟩ => rfl
    | ⟨1, _⟩ => rfl
  show Ideal.div (taken h a (ix2 c k)) (broadcastInDim S16x1024 ![0, 1] bcast_S16x1_S16x1024_0_1 (norms (taken h a)) (ix2 c k))
    = (tableRow h (word a c.val) (ix2 0 k) * Cert.Proof.Pool.factor (tableRow h (word a c.val)) : EReal)
  rw [en, norms_apply, Cert.Proof.Pool.factor_eq, Ideal.div, if_neg (Cert.Proof.Pool.norm_pos _)]
  simp only [taken_apply h a ha]

/-! ## The frames -/

theorem frame : Cert.quiescent_ReferenceIdeal := fun m g _ =>
  (θ_run defs _ _).mono (fun r hr => ⟨fun c => (hr c).2, sem_eq_zero_of_no_sems (by decide) r.2⟩) (Value.run m g)

theorem frame_pre : Cert.quiescent_ReferenceIdeal_pre_lens_in_range := fun m g _ => frame m g trivial

end Cert.Proof.Ref

end
-- ==== Proof.Equation.lean ====
/-
  The value claim: for lengths in range the kernel and the reference end with equal results; and the kernel's one named
  constant.
-/
module

public import proofs.«01_k».proof.Proof.Frames
public import proofs.«01_k».proof.Proof.Reference

@[expose] public section

noncomputable section

namespace Cert.Proof

open Idealize.ShloMosaic Idealize.SL.Sem

/-- The constant is the square of the float nearest `10 ^ (-12)`. -/
theorem preserves : Cert.preserves_Kernel_KernelIdeal :=
  IdealRules.named_const.statement Cert.KernelIdeal.κ "eps_sq" .f32 0x179ABE15#32
    ((5316911940649 / 5316911983139663491615228241121378304 : ℝ) : EReal) rfl

theorem algebraic : Cert.algebraic_KernelIdeal_ReferenceIdeal := by
  intro m g m' g' hpre hagree
  have hin := fun c => Pool.inRange_of_pre _ _ (hpre c)
  refine ⟨fun c => Pool.made m c, ?_, ?_⟩
  · exact (θ_run Cert.KernelIdeal.defs _ _).mono (fun _ h => h.1)
      (Pool.run_main (F := Ideal) m g fun d r => Pool.word_lt _ (hin d) r.val r.isLt)
  · refine (θ_run Cert.ReferenceIdeal.defs _ _).mono (fun r h c => ⟨(h c).1.trans ?_, (h c).2⟩) (Cert.ReferenceIdeal.Value.run m' g')
    refine (Ref.res_eq m' c).trans ?_
    rw [(hagree c).1, (hagree c).2]
    exact Ref.value_eq _ _ (hin c)

end Cert.Proof

end
-- ==== Proof.lean ====
/-
  The claims: the kernel's frames at the chip's floats and at the extended reals, the reference's frames, the named
  constant, and the value claim.

  `Values` says what the kernel computes; `Setup`, `Reads`, `Tile` and `Launch` run it; `Sums` bounds the row numbers;
  `Frames` gives the kernel's frames; `Norms` and `Reference` read the factor and the reference at the extended reals;
  `Equation` puts the two together.
-/
module

public import proofs.«01_k».proof.Defs
public import proofs.«01_k».proof.Proof.Frames
public import proofs.«01_k».proof.Proof.Reference
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, Cert.Pre_lens_in_range.Gen.facts,
    Pool.frame_bits, Pool.frame_ideal, Ref.frame, Ref.frame_pre, preserves, algebraic⟩

end Cert.Proof

end
